-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 64]⟩ ⟨2, ![1024, 1024]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![64, 1024]⟩ ⟨2, ![1024, 1024]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x64 : Shape := ⟨2, ![1024, 64]⟩
abbrev S64x1024 : Shape := ⟨2, ![64, 1024]⟩
abbrev S1024x1024 : Shape := ⟨2, ![1024, 1024]⟩
abbrev S8x512x128 : Shape := ⟨3, ![8, 512, 128]⟩
abbrev S8x256x128 : Shape := ⟨3, ![8, 256, 128]⟩
abbrev S8x3x64x128 : Shape := ⟨4, ![8, 3, 64, 128]⟩
abbrev S8x10 : Shape := ⟨2, ![8, 10]⟩
abbrev S_ : Shape := ⟨0, ![]⟩
abbrev S1x1 : Shape := ⟨2, ![1, 1]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S1x1x64x128 : Shape := ⟨4, ![1, 1, 64, 128]⟩
abbrev S64x128 : Shape := ⟨2, ![64, 128]⟩
abbrev S1024x128 : Shape := ⟨2, ![1024, 128]⟩

abbrev nBuf : Space → Nat
  | .hbm => 3
  | .vmem => 7
  | .smem => 0
  | _ => 0

abbrev bufTy : (tb : Table) → Fin (tcTables nBuf tb) → BufTy
  | .hbm, ⟨0, _⟩ => ⟨S1024x64, .bf16⟩
  | .hbm, ⟨1, _⟩ => ⟨S64x1024, .bf16⟩
  | .hbm, ⟨2, _⟩ => ⟨S1024x1024, .f32⟩
  | .local _ .vmem, ⟨0, _⟩ => ⟨S1024x64, .bf16⟩
  | .local _ .vmem, ⟨1, _⟩ => ⟨S64x1024, .bf16⟩
  | .local _ .vmem, ⟨2, _⟩ => ⟨S1024x1024, .f32⟩
  | .local _ .vmem, ⟨3, _⟩ => ⟨S1024x1024, .bf16⟩
  | .local _ .vmem, ⟨4, _⟩ => ⟨S8x512x128, .bf16⟩
  | .local _ .vmem, ⟨5, _⟩ => ⟨S8x256x128, .bf16⟩
  | .local _ .vmem, ⟨6, _⟩ => ⟨S8x3x64x128, .bf16⟩
  | _, _ => ⟨S1024x64, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 163 → Bool
  | ⟨i, _⟩ => dmaSemScopedAt i

abbrev sig : RefSig :=
  (ofTc nBuf bufTy 1 163 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v8 : BitVec 32 := Scalar.addi v2 c1_i32_2
  let c2_i32_4 : BitVec 32 := 2#32
  let c4_i32 : BitVec 32 := 4#32
  let v3 : BitVec 32 := Scalar.remsi v2 c4_i32
  let c2_i32_3 : BitVec 32 := 2#32
  let v9 : BitVec 32 := Scalar.remsi v3 c2_i32_3
  let v10 : BitVec 32 := Scalar.muli c2_i32_4 v9
  let v11 : BitVec 32 := Scalar.subi v8 v10
  let c1_i32_12 : BitVec 32 := 1#32
  let v23 : BitVec 32 := Scalar.muli v11 c1_i32_12
  let v24 : BitVec 32 := Scalar.addi c0_i32 v23
  v24.toNat
def k0_dev2 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 32 := Scalar.addi v2 c3_i32
  let c2_i32_6 : BitVec 32 := 2#32
  let c4_i32 : BitVec 32 := 4#32
  let v3 : BitVec 32 := Scalar.remsi v2 c4_i32
  let v14 : BitVec 32 := Scalar.muli c2_i32_6 v3
  let v15 : BitVec 32 := Scalar.subi v13 v14
  let c1_i32_14 : BitVec 32 := 1#32
  let v25 : BitVec 32 := Scalar.muli v15 c1_i32_14
  let v26 : BitVec 32 := Scalar.addi c0_i32_15 v25
  v26.toNat
def k0_dev3 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v16 : BitVec 32 := Scalar.addi v2 c4_i32_7
  let c16_i32_8 : BitVec 32 := 16#32
  let v17 : BitVec 32 := Scalar.remsi v16 c16_i32_8
  let c1_i32_17 : BitVec 32 := 1#32
  let v27 : BitVec 32 := Scalar.muli v17 c1_i32_17
  let v28 : BitVec 32 := Scalar.addi c0_i32_18 v27
  v28.toNat
def k0_dev4 (d0 : Dev nD) : Nat :=
  let c0_i32_21 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v18 : BitVec 32 := Scalar.addi v2 c8_i32
  let c16_i32_9 : BitVec 32 := 16#32
  let v19 : BitVec 32 := Scalar.remsi v18 c16_i32_9
  let c1_i32_20 : BitVec 32 := 1#32
  let v29 : BitVec 32 := Scalar.muli v19 c1_i32_20
  let v30 : BitVec 32 := Scalar.addi c0_i32_21 v29
  v30.toNat
def k0_dev5 (d0 : Dev nD) : Nat :=
  let c0_i32_24 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v20 : BitVec 32 := Scalar.addi v2 c12_i32
  let c16_i32_10 : BitVec 32 := 16#32
  let v21 : BitVec 32 := Scalar.remsi v20 c16_i32_10
  let c1_i32_23 : BitVec 32 := 1#32
  let v31 : BitVec 32 := Scalar.muli v21 c1_i32_23
  let v32 : BitVec 32 := Scalar.addi c0_i32_24 v31
  v32.toNat
def k0_off1 (d0 : Dev nD) : Fin 2 → Nat :=
  let c1_i32_30 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let v43 : BitVec 32 := Scalar.subi c1_i32_30 v7
  let c512_i32_31 : BitVec 32 := 512#32
  let v44 : BitVec 32 := Scalar.muli v43 c512_i32_31
  let c0_i32_49 : BitVec 32 := 0#32
  ![v44.toNat, 0]
def k0_dev6 (d0 : Dev nD) : Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v8 : BitVec 32 := Scalar.addi v2 c1_i32_2
  let c2_i32_4 : BitVec 32 := 2#32
  let c4_i32 : BitVec 32 := 4#32
  let v3 : BitVec 32 := Scalar.remsi v2 c4_i32
  let c2_i32_3 : BitVec 32 := 2#32
  let v9 : BitVec 32 := Scalar.remsi v3 c2_i32_3
  let v10 : BitVec 32 := Scalar.muli c2_i32_4 v9
  let v11 : BitVec 32 := Scalar.subi v8 v10
  let c1_i32_45 : BitVec 32 := 1#32
  let v58 : BitVec 32 := Scalar.muli v11 c1_i32_45
  let v59 : BitVec 32 := Scalar.addi c0_i32_46 v58
  v59.toNat
def k0_off2 (d0 : Dev nD) : Fin 2 → Nat :=
  let c1_i32_35 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_5 : BitVec 32 := 2#32
  let v12 : BitVec 32 := Scalar.divsi v3 c2_i32_5
  let v51 : BitVec 32 := Scalar.subi c1_i32_35 v12
  let c512_i32_36 : BitVec 32 := 512#32
  let v52 : BitVec 32 := Scalar.muli v51 c512_i32_36
  let c512_i32_59 : BitVec 32 := 512#32
  ![v52.toNat, 512]
def k0_dev7 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 32 := Scalar.addi v2 c3_i32
  let c2_i32_6 : BitVec 32 := 2#32
  let c4_i32 : BitVec 32 := 4#32
  let v3 : BitVec 32 := Scalar.remsi v2 c4_i32
  let v14 : BitVec 32 := Scalar.muli c2_i32_6 v3
  let v15 : BitVec 32 := Scalar.subi v13 v14
  let c1_i32_55 : BitVec 32 := 1#32
  let v67 : BitVec 32 := Scalar.muli v15 c1_i32_55
  let v68 : BitVec 32 := Scalar.addi c0_i32_56 v67
  v68.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c512_i32 : BitVec 32 := 512#32
  let v42 : BitVec 32 := Scalar.muli v7 c512_i32
  let v88 : Index := Scalar.indexCast v42
  let c0_79 : Index := 0#32
  ![v88.toNat, 0]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c512_i32 : BitVec 32 := 512#32
  let v42 : BitVec 32 := Scalar.muli v7 c512_i32
  let c1_i32_32 : BitVec 32 := 1#32
  let c2_i32_5 : BitVec 32 := 2#32
  let v12 : BitVec 32 := Scalar.divsi v3 c2_i32_5
  let v45 : BitVec 32 := Scalar.subi c1_i32_32 v12
  let c256_i32 : BitVec 32 := 256#32
  let v46 : BitVec 32 := Scalar.muli v45 c256_i32
  let v47 : BitVec 32 := Scalar.addi v42 v46
  let c0_i32_93 : BitVec 32 := 0#32
  ![v47.toNat, 0]
def k0_dev8 (d0 : Dev nD) : Nat :=
  let c0_i32_90 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 32 := Scalar.addi v2 c3_i32
  let c2_i32_6 : BitVec 32 := 2#32
  let c4_i32 : BitVec 32 := 4#32
  let v3 : BitVec 32 := Scalar.remsi v2 c4_i32
  let v14 : BitVec 32 := Scalar.muli c2_i32_6 v3
  let v15 : BitVec 32 := Scalar.subi v13 v14
  let c1_i32_89 : BitVec 32 := 1#32
  let v97 : BitVec 32 := Scalar.muli v15 c1_i32_89
  let v98 : BitVec 32 := Scalar.addi c0_i32_90 v97
  v98.toNat
def k0_off5 (d0 : Dev nD) : Fin 2 → Nat :=
  let c1_i32_30 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let v43 : BitVec 32 := Scalar.subi c1_i32_30 v7
  let c512_i32_31 : BitVec 32 := 512#32
  let v44 : BitVec 32 := Scalar.muli v43 c512_i32_31
  let c128_i32 : BitVec 32 := 128#32
  ![v44.toNat, 128]
def k0_dev9 (d0 : Dev nD) : Nat :=
  let c0_i32_100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v8 : BitVec 32 := Scalar.addi v2 c1_i32_2
  let c2_i32_4 : BitVec 32 := 2#32
  let c4_i32 : BitVec 32 := 4#32
  let v3 : BitVec 32 := Scalar.remsi v2 c4_i32
  let c2_i32_3 : BitVec 32 := 2#32
  let v9 : BitVec 32 := Scalar.remsi v3 c2_i32_3
  let v10 : BitVec 32 := Scalar.muli c2_i32_4 v9
  let v11 : BitVec 32 := Scalar.subi v8 v10
  let c1_i32_99 : BitVec 32 := 1#32
  let v106 : BitVec 32 := Scalar.muli v11 c1_i32_99
  let v107 : BitVec 32 := Scalar.addi c0_i32_100 v106
  v107.toNat
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_5 : BitVec 32 := 2#32
  let v12 : BitVec 32 := Scalar.divsi v3 c2_i32_5
  let c512_i32_34 : BitVec 32 := 512#32
  let v50 : BitVec 32 := Scalar.muli v12 c512_i32_34
  let v127 : Index := Scalar.indexCast v50
  let c512 : Index := 512#32
  ![v127.toNat, 512]
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_5 : BitVec 32 := 2#32
  let v12 : BitVec 32 := Scalar.divsi v3 c2_i32_5
  let c512_i32_34 : BitVec 32 := 512#32
  let v50 : BitVec 32 := Scalar.muli v12 c512_i32_34
  let c1_i32_37 : BitVec 32 := 1#32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let v53 : BitVec 32 := Scalar.subi c1_i32_37 v7
  let c256_i32_38 : BitVec 32 := 256#32
  let v54 : BitVec 32 := Scalar.muli v53 c256_i32_38
  let v55 : BitVec 32 := Scalar.addi v50 v54
  let c512_i32_134 : BitVec 32 := 512#32
  ![v55.toNat, 512]
def k0_dev10 (d0 : Dev nD) : Nat :=
  let c0_i32_131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v8 : BitVec 32 := Scalar.addi v2 c1_i32_2
  let c2_i32_4 : BitVec 32 := 2#32
  let c4_i32 : BitVec 32 := 4#32
  let v3 : BitVec 32 := Scalar.remsi v2 c4_i32
  let c2_i32_3 : BitVec 32 := 2#32
  let v9 : BitVec 32 := Scalar.remsi v3 c2_i32_3
  let v10 : BitVec 32 := Scalar.muli c2_i32_4 v9
  let v11 : BitVec 32 := Scalar.subi v8 v10
  let c1_i32_130 : BitVec 32 := 1#32
  let v136 : BitVec 32 := Scalar.muli v11 c1_i32_130
  let v137 : BitVec 32 := Scalar.addi c0_i32_131 v136
  v137.toNat
def k0_off8 (d0 : Dev nD) : Fin 2 → Nat :=
  let c1_i32_35 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_5 : BitVec 32 := 2#32
  let v12 : BitVec 32 := Scalar.divsi v3 c2_i32_5
  let v51 : BitVec 32 := Scalar.subi c1_i32_35 v12
  let c512_i32_36 : BitVec 32 := 512#32
  let v52 : BitVec 32 := Scalar.muli v51 c512_i32_36
  let c640_i32 : BitVec 32 := 640#32
  ![v52.toNat, 640]
def k0_dev11 (d0 : Dev nD) : Nat :=
  let c0_i32_141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 32 := Scalar.addi v2 c3_i32
  let c2_i32_6 : BitVec 32 := 2#32
  let c4_i32 : BitVec 32 := 4#32
  let v3 : BitVec 32 := Scalar.remsi v2 c4_i32
  let v14 : BitVec 32 := Scalar.muli c2_i32_6 v3
  let v15 : BitVec 32 := Scalar.subi v13 v14
  let c1_i32_140 : BitVec 32 := 1#32
  let v145 : BitVec 32 := Scalar.muli v15 c1_i32_140
  let v146 : BitVec 32 := Scalar.addi c0_i32_141 v145
  v146.toNat
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c512_i32 : BitVec 32 := 512#32
  let v42 : BitVec 32 := Scalar.muli v7 c512_i32
  let c2_i32_5 : BitVec 32 := 2#32
  let v12 : BitVec 32 := Scalar.divsi v3 c2_i32_5
  let c256_i32_33 : BitVec 32 := 256#32
  let v48 : BitVec 32 := Scalar.muli v12 c256_i32_33
  let v49 : BitVec 32 := Scalar.addi v42 v48
  let v166 : Index := Scalar.indexCast v49
  let c0_163 : Index := 0#32
  ![v166.toNat, 0]
def k0_off10 (d0 : Dev nD) (c1_i32_168 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c512_i32 : BitVec 32 := 512#32
  let v42 : BitVec 32 := Scalar.muli v7 c512_i32
  let c2_i32_5 : BitVec 32 := 2#32
  let v12 : BitVec 32 := Scalar.divsi v3 c2_i32_5
  let c256_i32_33 : BitVec 32 := 256#32
  let v48 : BitVec 32 := Scalar.muli v12 c256_i32_33
  let v49 : BitVec 32 := Scalar.addi v42 v48
  let c4_i32_0 : BitVec 32 := 4#32
  let v4 : BitVec 32 := Scalar.divsi v2 c4_i32_0
  let v175 : BitVec 32 := Scalar.addi v4 c1_i32_168
  let c4_i32_169 : BitVec 32 := 4#32
  let v176 : BitVec 32 := Scalar.remsi v175 c4_i32_169
  let c64_i32 : BitVec 32 := 64#32
  let v177 : BitVec 32 := Scalar.muli v176 c64_i32
  let v178 : BitVec 32 := Scalar.addi v49 v177
  let c0_i32_180 : BitVec 32 := 0#32
  ![v178.toNat, 0]
def k0_dev12 (d0 : Dev nD) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v16 : BitVec 32 := Scalar.addi v2 c4_i32_7
  let c16_i32_8 : BitVec 32 := 16#32
  let v17 : BitVec 32 := Scalar.remsi v16 c16_i32_8
  let c1_i32_176 : BitVec 32 := 1#32
  let v179 : BitVec 32 := Scalar.muli v17 c1_i32_176
  let v180 : BitVec 32 := Scalar.addi c0_i32_177 v179
  v180.toNat
def k0_dev13 (d0 : Dev nD) : Nat :=
  let c0_i32_191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v18 : BitVec 32 := Scalar.addi v2 c8_i32
  let c16_i32_9 : BitVec 32 := 16#32
  let v19 : BitVec 32 := Scalar.remsi v18 c16_i32_9
  let c1_i32_190 : BitVec 32 := 1#32
  let v192 : BitVec 32 := Scalar.muli v19 c1_i32_190
  let v193 : BitVec 32 := Scalar.addi c0_i32_191 v192
  v193.toNat
def k0_dev14 (d0 : Dev nD) : Nat :=
  let c0_i32_205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v20 : BitVec 32 := Scalar.addi v2 c12_i32
  let c16_i32_10 : BitVec 32 := 16#32
  let v21 : BitVec 32 := Scalar.remsi v20 c16_i32_10
  let c1_i32_204 : BitVec 32 := 1#32
  let v205 : BitVec 32 := Scalar.muli v21 c1_i32_204
  let v206 : BitVec 32 := Scalar.addi c0_i32_205 v205
  v206.toNat
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c512_i32 : BitVec 32 := 512#32
  let v42 : BitVec 32 := Scalar.muli v7 c512_i32
  let v226 : Index := Scalar.indexCast v42
  let c128 : Index := 128#32
  ![v226.toNat, 128]
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c512_i32 : BitVec 32 := 512#32
  let v42 : BitVec 32 := Scalar.muli v7 c512_i32
  let c1_i32_32 : BitVec 32 := 1#32
  let c2_i32_5 : BitVec 32 := 2#32
  let v12 : BitVec 32 := Scalar.divsi v3 c2_i32_5
  let v45 : BitVec 32 := Scalar.subi c1_i32_32 v12
  let c256_i32 : BitVec 32 := 256#32
  let v46 : BitVec 32 := Scalar.muli v45 c256_i32
  let v47 : BitVec 32 := Scalar.addi v42 v46
  let c128_i32_240 : BitVec 32 := 128#32
  ![v47.toNat, 128]
def k0_dev15 (d0 : Dev nD) : Nat :=
  let c0_i32_237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 32 := Scalar.addi v2 c3_i32
  let c2_i32_6 : BitVec 32 := 2#32
  let c4_i32 : BitVec 32 := 4#32
  let v3 : BitVec 32 := Scalar.remsi v2 c4_i32
  let v14 : BitVec 32 := Scalar.muli c2_i32_6 v3
  let v15 : BitVec 32 := Scalar.subi v13 v14
  let c1_i32_236 : BitVec 32 := 1#32
  let v235 : BitVec 32 := Scalar.muli v15 c1_i32_236
  let v236 : BitVec 32 := Scalar.addi c0_i32_237 v235
  v236.toNat
def k0_off13 (d0 : Dev nD) : Fin 2 → Nat :=
  let c1_i32_30 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let v43 : BitVec 32 := Scalar.subi c1_i32_30 v7
  let c512_i32_31 : BitVec 32 := 512#32
  let v44 : BitVec 32 := Scalar.muli v43 c512_i32_31
  let c256_i32_250 : BitVec 32 := 256#32
  ![v44.toNat, 256]
def k0_dev16 (d0 : Dev nD) : Nat :=
  let c0_i32_247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v8 : BitVec 32 := Scalar.addi v2 c1_i32_2
  let c2_i32_4 : BitVec 32 := 2#32
  let c4_i32 : BitVec 32 := 4#32
  let v3 : BitVec 32 := Scalar.remsi v2 c4_i32
  let c2_i32_3 : BitVec 32 := 2#32
  let v9 : BitVec 32 := Scalar.remsi v3 c2_i32_3
  let v10 : BitVec 32 := Scalar.muli c2_i32_4 v9
  let v11 : BitVec 32 := Scalar.subi v8 v10
  let c1_i32_246 : BitVec 32 := 1#32
  let v244 : BitVec 32 := Scalar.muli v11 c1_i32_246
  let v245 : BitVec 32 := Scalar.addi c0_i32_247 v244
  v245.toNat
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_5 : BitVec 32 := 2#32
  let v12 : BitVec 32 := Scalar.divsi v3 c2_i32_5
  let c512_i32_34 : BitVec 32 := 512#32
  let v50 : BitVec 32 := Scalar.muli v12 c512_i32_34
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c256_i32_39 : BitVec 32 := 256#32
  let v56 : BitVec 32 := Scalar.muli v7 c256_i32_39
  let v57 : BitVec 32 := Scalar.addi v50 v56
  let v265 : Index := Scalar.indexCast v57
  let c512_270 : Index := 512#32
  ![v265.toNat, 512]
def k0_off15 (d0 : Dev nD) (c1_i32_275 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_5 : BitVec 32 := 2#32
  let v12 : BitVec 32 := Scalar.divsi v3 c2_i32_5
  let c512_i32_34 : BitVec 32 := 512#32
  let v50 : BitVec 32 := Scalar.muli v12 c512_i32_34
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c256_i32_39 : BitVec 32 := 256#32
  let v56 : BitVec 32 := Scalar.muli v7 c256_i32_39
  let v57 : BitVec 32 := Scalar.addi v50 v56
  let c4_i32_0 : BitVec 32 := 4#32
  let v4 : BitVec 32 := Scalar.divsi v2 c4_i32_0
  let v274 : BitVec 32 := Scalar.addi v4 c1_i32_275
  let c4_i32_276 : BitVec 32 := 4#32
  let v275 : BitVec 32 := Scalar.remsi v274 c4_i32_276
  let c64_i32_277 : BitVec 32 := 64#32
  let v276 : BitVec 32 := Scalar.muli v275 c64_i32_277
  let v277 : BitVec 32 := Scalar.addi v57 v276
  let c512_i32_288 : BitVec 32 := 512#32
  ![v277.toNat, 512]
def k0_dev17 (d0 : Dev nD) : Nat :=
  let c0_i32_285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v16 : BitVec 32 := Scalar.addi v2 c4_i32_7
  let c16_i32_8 : BitVec 32 := 16#32
  let v17 : BitVec 32 := Scalar.remsi v16 c16_i32_8
  let c1_i32_284 : BitVec 32 := 1#32
  let v278 : BitVec 32 := Scalar.muli v17 c1_i32_284
  let v279 : BitVec 32 := Scalar.addi c0_i32_285 v278
  v279.toNat
def k0_dev18 (d0 : Dev nD) : Nat :=
  let c0_i32_299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v18 : BitVec 32 := Scalar.addi v2 c8_i32
  let c16_i32_9 : BitVec 32 := 16#32
  let v19 : BitVec 32 := Scalar.remsi v18 c16_i32_9
  let c1_i32_298 : BitVec 32 := 1#32
  let v291 : BitVec 32 := Scalar.muli v19 c1_i32_298
  let v292 : BitVec 32 := Scalar.addi c0_i32_299 v291
  v292.toNat
def k0_dev19 (d0 : Dev nD) : Nat :=
  let c0_i32_313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v20 : BitVec 32 := Scalar.addi v2 c12_i32
  let c16_i32_10 : BitVec 32 := 16#32
  let v21 : BitVec 32 := Scalar.remsi v20 c16_i32_10
  let c1_i32_312 : BitVec 32 := 1#32
  let v304 : BitVec 32 := Scalar.muli v21 c1_i32_312
  let v305 : BitVec 32 := Scalar.addi c0_i32_313 v304
  v305.toNat
def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_5 : BitVec 32 := 2#32
  let v12 : BitVec 32 := Scalar.divsi v3 c2_i32_5
  let c512_i32_34 : BitVec 32 := 512#32
  let v50 : BitVec 32 := Scalar.muli v12 c512_i32_34
  let v325 : Index := Scalar.indexCast v50
  let c640 : Index := 640#32
  ![v325.toNat, 640]
def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_5 : BitVec 32 := 2#32
  let v12 : BitVec 32 := Scalar.divsi v3 c2_i32_5
  let c512_i32_34 : BitVec 32 := 512#32
  let v50 : BitVec 32 := Scalar.muli v12 c512_i32_34
  let c1_i32_37 : BitVec 32 := 1#32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let v53 : BitVec 32 := Scalar.subi c1_i32_37 v7
  let c256_i32_38 : BitVec 32 := 256#32
  let v54 : BitVec 32 := Scalar.muli v53 c256_i32_38
  let v55 : BitVec 32 := Scalar.addi v50 v54
  let c640_i32_348 : BitVec 32 := 640#32
  ![v55.toNat, 640]
def k0_dev20 (d0 : Dev nD) : Nat :=
  let c0_i32_345 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v8 : BitVec 32 := Scalar.addi v2 c1_i32_2
  let c2_i32_4 : BitVec 32 := 2#32
  let c4_i32 : BitVec 32 := 4#32
  let v3 : BitVec 32 := Scalar.remsi v2 c4_i32
  let c2_i32_3 : BitVec 32 := 2#32
  let v9 : BitVec 32 := Scalar.remsi v3 c2_i32_3
  let v10 : BitVec 32 := Scalar.muli c2_i32_4 v9
  let v11 : BitVec 32 := Scalar.subi v8 v10
  let c1_i32_344 : BitVec 32 := 1#32
  let v334 : BitVec 32 := Scalar.muli v11 c1_i32_344
  let v335 : BitVec 32 := Scalar.addi c0_i32_345 v334
  v335.toNat
def k0_off18 (d0 : Dev nD) : Fin 2 → Nat :=
  let c1_i32_35 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_5 : BitVec 32 := 2#32
  let v12 : BitVec 32 := Scalar.divsi v3 c2_i32_5
  let v51 : BitVec 32 := Scalar.subi c1_i32_35 v12
  let c512_i32_36 : BitVec 32 := 512#32
  let v52 : BitVec 32 := Scalar.muli v51 c512_i32_36
  let c768_i32 : BitVec 32 := 768#32
  ![v52.toNat, 768]
def k0_dev21 (d0 : Dev nD) : Nat :=
  let c0_i32_354 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 32 := Scalar.addi v2 c3_i32
  let c2_i32_6 : BitVec 32 := 2#32
  let c4_i32 : BitVec 32 := 4#32
  let v3 : BitVec 32 := Scalar.remsi v2 c4_i32
  let v14 : BitVec 32 := Scalar.muli c2_i32_6 v3
  let v15 : BitVec 32 := Scalar.subi v13 v14
  let c1_i32_353 : BitVec 32 := 1#32
  let v343 : BitVec 32 := Scalar.muli v15 c1_i32_353
  let v344 : BitVec 32 := Scalar.addi c0_i32_354 v343
  v344.toNat
def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c512_i32 : BitVec 32 := 512#32
  let v42 : BitVec 32 := Scalar.muli v7 c512_i32
  let c2_i32_5 : BitVec 32 := 2#32
  let v12 : BitVec 32 := Scalar.divsi v3 c2_i32_5
  let c256_i32_33 : BitVec 32 := 256#32
  let v48 : BitVec 32 := Scalar.muli v12 c256_i32_33
  let v49 : BitVec 32 := Scalar.addi v42 v48
  let c4_i32_0 : BitVec 32 := 4#32
  let v4 : BitVec 32 := Scalar.divsi v2 c4_i32_0
  let c64_i32_420 : BitVec 32 := 64#32
  let v388 : BitVec 32 := Scalar.muli v4 c64_i32_420
  let v389 : BitVec 32 := Scalar.addi v49 v388
  let v390 : Index := Scalar.indexCast v389
  let c0_421 : Index := 0#32
  ![v390.toNat, 0]
def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c512_i32 : BitVec 32 := 512#32
  let v42 : BitVec 32 := Scalar.muli v7 c512_i32
  let c2_i32_5 : BitVec 32 := 2#32
  let v12 : BitVec 32 := Scalar.divsi v3 c2_i32_5
  let c256_i32_33 : BitVec 32 := 256#32
  let v48 : BitVec 32 := Scalar.muli v12 c256_i32_33
  let v49 : BitVec 32 := Scalar.addi v42 v48
  let c4_i32_0 : BitVec 32 := 4#32
  let v4 : BitVec 32 := Scalar.divsi v2 c4_i32_0
  let c64_i32_434 : BitVec 32 := 64#32
  let v405 : BitVec 32 := Scalar.muli v4 c64_i32_434
  let v406 : BitVec 32 := Scalar.addi v49 v405
  let c0_i32_441 : BitVec 32 := 0#32
  ![v406.toNat, 0]
def k0_dev22 (d0 : Dev nD) : Nat :=
  let c0_i32_440 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v16 : BitVec 32 := Scalar.addi v2 c4_i32_7
  let c16_i32_8 : BitVec 32 := 16#32
  let v17 : BitVec 32 := Scalar.remsi v16 c16_i32_8
  let c1_i32_439 : BitVec 32 := 1#32
  let v407 : BitVec 32 := Scalar.muli v17 c1_i32_439
  let v408 : BitVec 32 := Scalar.addi c0_i32_440 v407
  v408.toNat
def k0_dev23 (d0 : Dev nD) : Nat :=
  let c0_i32_448 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v18 : BitVec 32 := Scalar.addi v2 c8_i32
  let c16_i32_9 : BitVec 32 := 16#32
  let v19 : BitVec 32 := Scalar.remsi v18 c16_i32_9
  let c1_i32_447 : BitVec 32 := 1#32
  let v415 : BitVec 32 := Scalar.muli v19 c1_i32_447
  let v416 : BitVec 32 := Scalar.addi c0_i32_448 v415
  v416.toNat
def k0_dev24 (d0 : Dev nD) : Nat :=
  let c0_i32_455 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v20 : BitVec 32 := Scalar.addi v2 c12_i32
  let c16_i32_10 : BitVec 32 := 16#32
  let v21 : BitVec 32 := Scalar.remsi v20 c16_i32_10
  let c1_i32_454 : BitVec 32 := 1#32
  let v423 : BitVec 32 := Scalar.muli v21 c1_i32_454
  let v424 : BitVec 32 := Scalar.addi c0_i32_455 v423
  v424.toNat
def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c512_i32 : BitVec 32 := 512#32
  let v42 : BitVec 32 := Scalar.muli v7 c512_i32
  let c2_i32_5 : BitVec 32 := 2#32
  let v12 : BitVec 32 := Scalar.divsi v3 c2_i32_5
  let c256_i32_33 : BitVec 32 := 256#32
  let v48 : BitVec 32 := Scalar.muli v12 c256_i32_33
  let v49 : BitVec 32 := Scalar.addi v42 v48
  let v443 : Index := Scalar.indexCast v49
  let c128_477 : Index := 128#32
  ![v443.toNat, 128]
def k0_off22 (d0 : Dev nD) (c1_i32_482 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c512_i32 : BitVec 32 := 512#32
  let v42 : BitVec 32 := Scalar.muli v7 c512_i32
  let c2_i32_5 : BitVec 32 := 2#32
  let v12 : BitVec 32 := Scalar.divsi v3 c2_i32_5
  let c256_i32_33 : BitVec 32 := 256#32
  let v48 : BitVec 32 := Scalar.muli v12 c256_i32_33
  let v49 : BitVec 32 := Scalar.addi v42 v48
  let c4_i32_0 : BitVec 32 := 4#32
  let v4 : BitVec 32 := Scalar.divsi v2 c4_i32_0
  let v452 : BitVec 32 := Scalar.addi v4 c1_i32_482
  let c4_i32_483 : BitVec 32 := 4#32
  let v453 : BitVec 32 := Scalar.remsi v452 c4_i32_483
  let c64_i32_484 : BitVec 32 := 64#32
  let v454 : BitVec 32 := Scalar.muli v453 c64_i32_484
  let v455 : BitVec 32 := Scalar.addi v49 v454
  let c128_i32_495 : BitVec 32 := 128#32
  ![v455.toNat, 128]
def k0_dev25 (d0 : Dev nD) : Nat :=
  let c0_i32_492 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v16 : BitVec 32 := Scalar.addi v2 c4_i32_7
  let c16_i32_8 : BitVec 32 := 16#32
  let v17 : BitVec 32 := Scalar.remsi v16 c16_i32_8
  let c1_i32_491 : BitVec 32 := 1#32
  let v456 : BitVec 32 := Scalar.muli v17 c1_i32_491
  let v457 : BitVec 32 := Scalar.addi c0_i32_492 v456
  v457.toNat
def k0_dev26 (d0 : Dev nD) : Nat :=
  let c0_i32_506 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v18 : BitVec 32 := Scalar.addi v2 c8_i32
  let c16_i32_9 : BitVec 32 := 16#32
  let v19 : BitVec 32 := Scalar.remsi v18 c16_i32_9
  let c1_i32_505 : BitVec 32 := 1#32
  let v469 : BitVec 32 := Scalar.muli v19 c1_i32_505
  let v470 : BitVec 32 := Scalar.addi c0_i32_506 v469
  v470.toNat
def k0_dev27 (d0 : Dev nD) : Nat :=
  let c0_i32_520 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v20 : BitVec 32 := Scalar.addi v2 c12_i32
  let c16_i32_10 : BitVec 32 := 16#32
  let v21 : BitVec 32 := Scalar.remsi v20 c16_i32_10
  let c1_i32_519 : BitVec 32 := 1#32
  let v482 : BitVec 32 := Scalar.muli v21 c1_i32_519
  let v483 : BitVec 32 := Scalar.addi c0_i32_520 v482
  v483.toNat
def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c512_i32 : BitVec 32 := 512#32
  let v42 : BitVec 32 := Scalar.muli v7 c512_i32
  let v503 : Index := Scalar.indexCast v42
  let c256 : Index := 256#32
  ![v503.toNat, 256]
def k0_off24 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c512_i32 : BitVec 32 := 512#32
  let v42 : BitVec 32 := Scalar.muli v7 c512_i32
  let c1_i32_32 : BitVec 32 := 1#32
  let c2_i32_5 : BitVec 32 := 2#32
  let v12 : BitVec 32 := Scalar.divsi v3 c2_i32_5
  let v45 : BitVec 32 := Scalar.subi c1_i32_32 v12
  let c256_i32 : BitVec 32 := 256#32
  let v46 : BitVec 32 := Scalar.muli v45 c256_i32
  let v47 : BitVec 32 := Scalar.addi v42 v46
  let c256_i32_556 : BitVec 32 := 256#32
  ![v47.toNat, 256]
def k0_dev28 (d0 : Dev nD) : Nat :=
  let c0_i32_553 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 32 := Scalar.addi v2 c3_i32
  let c2_i32_6 : BitVec 32 := 2#32
  let c4_i32 : BitVec 32 := 4#32
  let v3 : BitVec 32 := Scalar.remsi v2 c4_i32
  let v14 : BitVec 32 := Scalar.muli c2_i32_6 v3
  let v15 : BitVec 32 := Scalar.subi v13 v14
  let c1_i32_552 : BitVec 32 := 1#32
  let v512 : BitVec 32 := Scalar.muli v15 c1_i32_552
  let v513 : BitVec 32 := Scalar.addi c0_i32_553 v512
  v513.toNat
def k0_off25 (d0 : Dev nD) : Fin 2 → Nat :=
  let c1_i32_30 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let v43 : BitVec 32 := Scalar.subi c1_i32_30 v7
  let c512_i32_31 : BitVec 32 := 512#32
  let v44 : BitVec 32 := Scalar.muli v43 c512_i32_31
  let c384_i32 : BitVec 32 := 384#32
  ![v44.toNat, 384]
def k0_dev29 (d0 : Dev nD) : Nat :=
  let c0_i32_563 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v8 : BitVec 32 := Scalar.addi v2 c1_i32_2
  let c2_i32_4 : BitVec 32 := 2#32
  let c4_i32 : BitVec 32 := 4#32
  let v3 : BitVec 32 := Scalar.remsi v2 c4_i32
  let c2_i32_3 : BitVec 32 := 2#32
  let v9 : BitVec 32 := Scalar.remsi v3 c2_i32_3
  let v10 : BitVec 32 := Scalar.muli c2_i32_4 v9
  let v11 : BitVec 32 := Scalar.subi v8 v10
  let c1_i32_562 : BitVec 32 := 1#32
  let v521 : BitVec 32 := Scalar.muli v11 c1_i32_562
  let v522 : BitVec 32 := Scalar.addi c0_i32_563 v521
  v522.toNat
def k0_off26 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_5 : BitVec 32 := 2#32
  let v12 : BitVec 32 := Scalar.divsi v3 c2_i32_5
  let c512_i32_34 : BitVec 32 := 512#32
  let v50 : BitVec 32 := Scalar.muli v12 c512_i32_34
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c256_i32_39 : BitVec 32 := 256#32
  let v56 : BitVec 32 := Scalar.muli v7 c256_i32_39
  let v57 : BitVec 32 := Scalar.addi v50 v56
  let c4_i32_0 : BitVec 32 := 4#32
  let v4 : BitVec 32 := Scalar.divsi v2 c4_i32_0
  let c64_i32_629 : BitVec 32 := 64#32
  let v566 : BitVec 32 := Scalar.muli v4 c64_i32_629
  let v567 : BitVec 32 := Scalar.addi v57 v566
  let v568 : Index := Scalar.indexCast v567
  let c512_630 : Index := 512#32
  ![v568.toNat, 512]
def k0_off27 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_5 : BitVec 32 := 2#32
  let v12 : BitVec 32 := Scalar.divsi v3 c2_i32_5
  let c512_i32_34 : BitVec 32 := 512#32
  let v50 : BitVec 32 := Scalar.muli v12 c512_i32_34
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c256_i32_39 : BitVec 32 := 256#32
  let v56 : BitVec 32 := Scalar.muli v7 c256_i32_39
  let v57 : BitVec 32 := Scalar.addi v50 v56
  let c4_i32_0 : BitVec 32 := 4#32
  let v4 : BitVec 32 := Scalar.divsi v2 c4_i32_0
  let c64_i32_644 : BitVec 32 := 64#32
  let v583 : BitVec 32 := Scalar.muli v4 c64_i32_644
  let v584 : BitVec 32 := Scalar.addi v57 v583
  let c512_i32_651 : BitVec 32 := 512#32
  ![v584.toNat, 512]
def k0_dev30 (d0 : Dev nD) : Nat :=
  let c0_i32_650 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v16 : BitVec 32 := Scalar.addi v2 c4_i32_7
  let c16_i32_8 : BitVec 32 := 16#32
  let v17 : BitVec 32 := Scalar.remsi v16 c16_i32_8
  let c1_i32_649 : BitVec 32 := 1#32
  let v585 : BitVec 32 := Scalar.muli v17 c1_i32_649
  let v586 : BitVec 32 := Scalar.addi c0_i32_650 v585
  v586.toNat
def k0_dev31 (d0 : Dev nD) : Nat :=
  let c0_i32_658 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v18 : BitVec 32 := Scalar.addi v2 c8_i32
  let c16_i32_9 : BitVec 32 := 16#32
  let v19 : BitVec 32 := Scalar.remsi v18 c16_i32_9
  let c1_i32_657 : BitVec 32 := 1#32
  let v593 : BitVec 32 := Scalar.muli v19 c1_i32_657
  let v594 : BitVec 32 := Scalar.addi c0_i32_658 v593
  v594.toNat
def k0_dev32 (d0 : Dev nD) : Nat :=
  let c0_i32_666 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v20 : BitVec 32 := Scalar.addi v2 c12_i32
  let c16_i32_10 : BitVec 32 := 16#32
  let v21 : BitVec 32 := Scalar.remsi v20 c16_i32_10
  let c1_i32_665 : BitVec 32 := 1#32
  let v601 : BitVec 32 := Scalar.muli v21 c1_i32_665
  let v602 : BitVec 32 := Scalar.addi c0_i32_666 v601
  v602.toNat
def k0_off28 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_5 : BitVec 32 := 2#32
  let v12 : BitVec 32 := Scalar.divsi v3 c2_i32_5
  let c512_i32_34 : BitVec 32 := 512#32
  let v50 : BitVec 32 := Scalar.muli v12 c512_i32_34
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c256_i32_39 : BitVec 32 := 256#32
  let v56 : BitVec 32 := Scalar.muli v7 c256_i32_39
  let v57 : BitVec 32 := Scalar.addi v50 v56
  let v621 : Index := Scalar.indexCast v57
  let c640_688 : Index := 640#32
  ![v621.toNat, 640]
def k0_off29 (d0 : Dev nD) (c1_i32_693 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_5 : BitVec 32 := 2#32
  let v12 : BitVec 32 := Scalar.divsi v3 c2_i32_5
  let c512_i32_34 : BitVec 32 := 512#32
  let v50 : BitVec 32 := Scalar.muli v12 c512_i32_34
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c256_i32_39 : BitVec 32 := 256#32
  let v56 : BitVec 32 := Scalar.muli v7 c256_i32_39
  let v57 : BitVec 32 := Scalar.addi v50 v56
  let c4_i32_0 : BitVec 32 := 4#32
  let v4 : BitVec 32 := Scalar.divsi v2 c4_i32_0
  let v630 : BitVec 32 := Scalar.addi v4 c1_i32_693
  let c4_i32_694 : BitVec 32 := 4#32
  let v631 : BitVec 32 := Scalar.remsi v630 c4_i32_694
  let c64_i32_695 : BitVec 32 := 64#32
  let v632 : BitVec 32 := Scalar.muli v631 c64_i32_695
  let v633 : BitVec 32 := Scalar.addi v57 v632
  let c640_i32_706 : BitVec 32 := 640#32
  ![v633.toNat, 640]
def k0_dev33 (d0 : Dev nD) : Nat :=
  let c0_i32_703 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v16 : BitVec 32 := Scalar.addi v2 c4_i32_7
  let c16_i32_8 : BitVec 32 := 16#32
  let v17 : BitVec 32 := Scalar.remsi v16 c16_i32_8
  let c1_i32_702 : BitVec 32 := 1#32
  let v634 : BitVec 32 := Scalar.muli v17 c1_i32_702
  let v635 : BitVec 32 := Scalar.addi c0_i32_703 v634
  v635.toNat
def k0_dev34 (d0 : Dev nD) : Nat :=
  let c0_i32_717 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v18 : BitVec 32 := Scalar.addi v2 c8_i32
  let c16_i32_9 : BitVec 32 := 16#32
  let v19 : BitVec 32 := Scalar.remsi v18 c16_i32_9
  let c1_i32_716 : BitVec 32 := 1#32
  let v647 : BitVec 32 := Scalar.muli v19 c1_i32_716
  let v648 : BitVec 32 := Scalar.addi c0_i32_717 v647
  v648.toNat
def k0_dev35 (d0 : Dev nD) : Nat :=
  let c0_i32_731 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v20 : BitVec 32 := Scalar.addi v2 c12_i32
  let c16_i32_10 : BitVec 32 := 16#32
  let v21 : BitVec 32 := Scalar.remsi v20 c16_i32_10
  let c1_i32_730 : BitVec 32 := 1#32
  let v660 : BitVec 32 := Scalar.muli v21 c1_i32_730
  let v661 : BitVec 32 := Scalar.addi c0_i32_731 v660
  v661.toNat
def k0_off30 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_5 : BitVec 32 := 2#32
  let v12 : BitVec 32 := Scalar.divsi v3 c2_i32_5
  let c512_i32_34 : BitVec 32 := 512#32
  let v50 : BitVec 32 := Scalar.muli v12 c512_i32_34
  let v681 : Index := Scalar.indexCast v50
  let c768 : Index := 768#32
  ![v681.toNat, 768]
def k0_off31 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_5 : BitVec 32 := 2#32
  let v12 : BitVec 32 := Scalar.divsi v3 c2_i32_5
  let c512_i32_34 : BitVec 32 := 512#32
  let v50 : BitVec 32 := Scalar.muli v12 c512_i32_34
  let c1_i32_37 : BitVec 32 := 1#32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let v53 : BitVec 32 := Scalar.subi c1_i32_37 v7
  let c256_i32_38 : BitVec 32 := 256#32
  let v54 : BitVec 32 := Scalar.muli v53 c256_i32_38
  let v55 : BitVec 32 := Scalar.addi v50 v54
  let c768_i32_766 : BitVec 32 := 768#32
  ![v55.toNat, 768]
def k0_dev36 (d0 : Dev nD) : Nat :=
  let c0_i32_763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v8 : BitVec 32 := Scalar.addi v2 c1_i32_2
  let c2_i32_4 : BitVec 32 := 2#32
  let c4_i32 : BitVec 32 := 4#32
  let v3 : BitVec 32 := Scalar.remsi v2 c4_i32
  let c2_i32_3 : BitVec 32 := 2#32
  let v9 : BitVec 32 := Scalar.remsi v3 c2_i32_3
  let v10 : BitVec 32 := Scalar.muli c2_i32_4 v9
  let v11 : BitVec 32 := Scalar.subi v8 v10
  let c1_i32_762 : BitVec 32 := 1#32
  let v690 : BitVec 32 := Scalar.muli v11 c1_i32_762
  let v691 : BitVec 32 := Scalar.addi c0_i32_763 v690
  v691.toNat
def k0_off32 (d0 : Dev nD) : Fin 2 → Nat :=
  let c1_i32_35 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_5 : BitVec 32 := 2#32
  let v12 : BitVec 32 := Scalar.divsi v3 c2_i32_5
  let v51 : BitVec 32 := Scalar.subi c1_i32_35 v12
  let c512_i32_36 : BitVec 32 := 512#32
  let v52 : BitVec 32 := Scalar.muli v51 c512_i32_36
  let c896_i32 : BitVec 32 := 896#32
  ![v52.toNat, 896]
def k0_dev37 (d0 : Dev nD) : Nat :=
  let c0_i32_773 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 32 := Scalar.addi v2 c3_i32
  let c2_i32_6 : BitVec 32 := 2#32
  let c4_i32 : BitVec 32 := 4#32
  let v3 : BitVec 32 := Scalar.remsi v2 c4_i32
  let v14 : BitVec 32 := Scalar.muli c2_i32_6 v3
  let v15 : BitVec 32 := Scalar.subi v13 v14
  let c1_i32_772 : BitVec 32 := 1#32
  let v699 : BitVec 32 := Scalar.muli v15 c1_i32_772
  let v700 : BitVec 32 := Scalar.addi c0_i32_773 v699
  v700.toNat
def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c512_i32 : BitVec 32 := 512#32
  let v42 : BitVec 32 := Scalar.muli v7 c512_i32
  let c2_i32_5 : BitVec 32 := 2#32
  let v12 : BitVec 32 := Scalar.divsi v3 c2_i32_5
  let c256_i32_33 : BitVec 32 := 256#32
  let v48 : BitVec 32 := Scalar.muli v12 c256_i32_33
  let v49 : BitVec 32 := Scalar.addi v42 v48
  let c0_i32_827 : BitVec 32 := 0#32
  ![v49.toNat, 0]
def k0_dev38 (d0 : Dev nD) : Nat :=
  let c0_i32_826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 32 := Scalar.addi v2 c3_i32
  let c2_i32_6 : BitVec 32 := 2#32
  let c4_i32 : BitVec 32 := 4#32
  let v3 : BitVec 32 := Scalar.remsi v2 c4_i32
  let v14 : BitVec 32 := Scalar.muli c2_i32_6 v3
  let v15 : BitVec 32 := Scalar.subi v13 v14
  let c1_i32_825 : BitVec 32 := 1#32
  let v738 : BitVec 32 := Scalar.muli v15 c1_i32_825
  let v739 : BitVec 32 := Scalar.addi c0_i32_826 v738
  v739.toNat
def k0_off34 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c512_i32 : BitVec 32 := 512#32
  let v42 : BitVec 32 := Scalar.muli v7 c512_i32
  let c2_i32_5 : BitVec 32 := 2#32
  let v12 : BitVec 32 := Scalar.divsi v3 c2_i32_5
  let c256_i32_33 : BitVec 32 := 256#32
  let v48 : BitVec 32 := Scalar.muli v12 c256_i32_33
  let v49 : BitVec 32 := Scalar.addi v42 v48
  let c4_i32_0 : BitVec 32 := 4#32
  let v4 : BitVec 32 := Scalar.divsi v2 c4_i32_0
  let c64_i32_892 : BitVec 32 := 64#32
  let v782 : BitVec 32 := Scalar.muli v4 c64_i32_892
  let v783 : BitVec 32 := Scalar.addi v49 v782
  let v784 : Index := Scalar.indexCast v783
  let c128_893 : Index := 128#32
  ![v784.toNat, 128]
def k0_off35 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c512_i32 : BitVec 32 := 512#32
  let v42 : BitVec 32 := Scalar.muli v7 c512_i32
  let c2_i32_5 : BitVec 32 := 2#32
  let v12 : BitVec 32 := Scalar.divsi v3 c2_i32_5
  let c256_i32_33 : BitVec 32 := 256#32
  let v48 : BitVec 32 := Scalar.muli v12 c256_i32_33
  let v49 : BitVec 32 := Scalar.addi v42 v48
  let c4_i32_0 : BitVec 32 := 4#32
  let v4 : BitVec 32 := Scalar.divsi v2 c4_i32_0
  let c64_i32_907 : BitVec 32 := 64#32
  let v799 : BitVec 32 := Scalar.muli v4 c64_i32_907
  let v800 : BitVec 32 := Scalar.addi v49 v799
  let c128_i32_914 : BitVec 32 := 128#32
  ![v800.toNat, 128]
def k0_dev39 (d0 : Dev nD) : Nat :=
  let c0_i32_913 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v16 : BitVec 32 := Scalar.addi v2 c4_i32_7
  let c16_i32_8 : BitVec 32 := 16#32
  let v17 : BitVec 32 := Scalar.remsi v16 c16_i32_8
  let c1_i32_912 : BitVec 32 := 1#32
  let v801 : BitVec 32 := Scalar.muli v17 c1_i32_912
  let v802 : BitVec 32 := Scalar.addi c0_i32_913 v801
  v802.toNat
def k0_dev40 (d0 : Dev nD) : Nat :=
  let c0_i32_921 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v18 : BitVec 32 := Scalar.addi v2 c8_i32
  let c16_i32_9 : BitVec 32 := 16#32
  let v19 : BitVec 32 := Scalar.remsi v18 c16_i32_9
  let c1_i32_920 : BitVec 32 := 1#32
  let v809 : BitVec 32 := Scalar.muli v19 c1_i32_920
  let v810 : BitVec 32 := Scalar.addi c0_i32_921 v809
  v810.toNat
def k0_dev41 (d0 : Dev nD) : Nat :=
  let c0_i32_929 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v20 : BitVec 32 := Scalar.addi v2 c12_i32
  let c16_i32_10 : BitVec 32 := 16#32
  let v21 : BitVec 32 := Scalar.remsi v20 c16_i32_10
  let c1_i32_928 : BitVec 32 := 1#32
  let v817 : BitVec 32 := Scalar.muli v21 c1_i32_928
  let v818 : BitVec 32 := Scalar.addi c0_i32_929 v817
  v818.toNat
def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c512_i32 : BitVec 32 := 512#32
  let v42 : BitVec 32 := Scalar.muli v7 c512_i32
  let c2_i32_5 : BitVec 32 := 2#32
  let v12 : BitVec 32 := Scalar.divsi v3 c2_i32_5
  let c256_i32_33 : BitVec 32 := 256#32
  let v48 : BitVec 32 := Scalar.muli v12 c256_i32_33
  let v49 : BitVec 32 := Scalar.addi v42 v48
  let v837 : Index := Scalar.indexCast v49
  let c256_951 : Index := 256#32
  ![v837.toNat, 256]
def k0_off37 (d0 : Dev nD) (c1_i32_956 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c512_i32 : BitVec 32 := 512#32
  let v42 : BitVec 32 := Scalar.muli v7 c512_i32
  let c2_i32_5 : BitVec 32 := 2#32
  let v12 : BitVec 32 := Scalar.divsi v3 c2_i32_5
  let c256_i32_33 : BitVec 32 := 256#32
  let v48 : BitVec 32 := Scalar.muli v12 c256_i32_33
  let v49 : BitVec 32 := Scalar.addi v42 v48
  let c4_i32_0 : BitVec 32 := 4#32
  let v4 : BitVec 32 := Scalar.divsi v2 c4_i32_0
  let v846 : BitVec 32 := Scalar.addi v4 c1_i32_956
  let c4_i32_957 : BitVec 32 := 4#32
  let v847 : BitVec 32 := Scalar.remsi v846 c4_i32_957
  let c64_i32_958 : BitVec 32 := 64#32
  let v848 : BitVec 32 := Scalar.muli v847 c64_i32_958
  let v849 : BitVec 32 := Scalar.addi v49 v848
  let c256_i32_969 : BitVec 32 := 256#32
  ![v849.toNat, 256]
def k0_dev42 (d0 : Dev nD) : Nat :=
  let c0_i32_966 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v16 : BitVec 32 := Scalar.addi v2 c4_i32_7
  let c16_i32_8 : BitVec 32 := 16#32
  let v17 : BitVec 32 := Scalar.remsi v16 c16_i32_8
  let c1_i32_965 : BitVec 32 := 1#32
  let v850 : BitVec 32 := Scalar.muli v17 c1_i32_965
  let v851 : BitVec 32 := Scalar.addi c0_i32_966 v850
  v851.toNat
def k0_dev43 (d0 : Dev nD) : Nat :=
  let c0_i32_980 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v18 : BitVec 32 := Scalar.addi v2 c8_i32
  let c16_i32_9 : BitVec 32 := 16#32
  let v19 : BitVec 32 := Scalar.remsi v18 c16_i32_9
  let c1_i32_979 : BitVec 32 := 1#32
  let v863 : BitVec 32 := Scalar.muli v19 c1_i32_979
  let v864 : BitVec 32 := Scalar.addi c0_i32_980 v863
  v864.toNat
def k0_dev44 (d0 : Dev nD) : Nat :=
  let c0_i32_994 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v20 : BitVec 32 := Scalar.addi v2 c12_i32
  let c16_i32_10 : BitVec 32 := 16#32
  let v21 : BitVec 32 := Scalar.remsi v20 c16_i32_10
  let c1_i32_993 : BitVec 32 := 1#32
  let v876 : BitVec 32 := Scalar.muli v21 c1_i32_993
  let v877 : BitVec 32 := Scalar.addi c0_i32_994 v876
  v877.toNat
def k0_off38 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c512_i32 : BitVec 32 := 512#32
  let v42 : BitVec 32 := Scalar.muli v7 c512_i32
  let v897 : Index := Scalar.indexCast v42
  let c384 : Index := 384#32
  ![v897.toNat, 384]
def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c512_i32 : BitVec 32 := 512#32
  let v42 : BitVec 32 := Scalar.muli v7 c512_i32
  let c1_i32_32 : BitVec 32 := 1#32
  let c2_i32_5 : BitVec 32 := 2#32
  let v12 : BitVec 32 := Scalar.divsi v3 c2_i32_5
  let v45 : BitVec 32 := Scalar.subi c1_i32_32 v12
  let c256_i32 : BitVec 32 := 256#32
  let v46 : BitVec 32 := Scalar.muli v45 c256_i32
  let v47 : BitVec 32 := Scalar.addi v42 v46
  let c384_i32_1029 : BitVec 32 := 384#32
  ![v47.toNat, 384]
def k0_dev45 (d0 : Dev nD) : Nat :=
  let c0_i32_1026 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 32 := Scalar.addi v2 c3_i32
  let c2_i32_6 : BitVec 32 := 2#32
  let c4_i32 : BitVec 32 := 4#32
  let v3 : BitVec 32 := Scalar.remsi v2 c4_i32
  let v14 : BitVec 32 := Scalar.muli c2_i32_6 v3
  let v15 : BitVec 32 := Scalar.subi v13 v14
  let c1_i32_1025 : BitVec 32 := 1#32
  let v906 : BitVec 32 := Scalar.muli v15 c1_i32_1025
  let v907 : BitVec 32 := Scalar.addi c0_i32_1026 v906
  v907.toNat
def k0_off40 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_5 : BitVec 32 := 2#32
  let v12 : BitVec 32 := Scalar.divsi v3 c2_i32_5
  let c512_i32_34 : BitVec 32 := 512#32
  let v50 : BitVec 32 := Scalar.muli v12 c512_i32_34
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c256_i32_39 : BitVec 32 := 256#32
  let v56 : BitVec 32 := Scalar.muli v7 c256_i32_39
  let v57 : BitVec 32 := Scalar.addi v50 v56
  let c512_i32_1081 : BitVec 32 := 512#32
  ![v57.toNat, 512]
def k0_dev46 (d0 : Dev nD) : Nat :=
  let c0_i32_1080 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v8 : BitVec 32 := Scalar.addi v2 c1_i32_2
  let c2_i32_4 : BitVec 32 := 2#32
  let c4_i32 : BitVec 32 := 4#32
  let v3 : BitVec 32 := Scalar.remsi v2 c4_i32
  let c2_i32_3 : BitVec 32 := 2#32
  let v9 : BitVec 32 := Scalar.remsi v3 c2_i32_3
  let v10 : BitVec 32 := Scalar.muli c2_i32_4 v9
  let v11 : BitVec 32 := Scalar.subi v8 v10
  let c1_i32_1079 : BitVec 32 := 1#32
  let v945 : BitVec 32 := Scalar.muli v11 c1_i32_1079
  let v946 : BitVec 32 := Scalar.addi c0_i32_1080 v945
  v946.toNat
def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_5 : BitVec 32 := 2#32
  let v12 : BitVec 32 := Scalar.divsi v3 c2_i32_5
  let c512_i32_34 : BitVec 32 := 512#32
  let v50 : BitVec 32 := Scalar.muli v12 c512_i32_34
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c256_i32_39 : BitVec 32 := 256#32
  let v56 : BitVec 32 := Scalar.muli v7 c256_i32_39
  let v57 : BitVec 32 := Scalar.addi v50 v56
  let c4_i32_0 : BitVec 32 := 4#32
  let v4 : BitVec 32 := Scalar.divsi v2 c4_i32_0
  let c64_i32_1146 : BitVec 32 := 64#32
  let v989 : BitVec 32 := Scalar.muli v4 c64_i32_1146
  let v990 : BitVec 32 := Scalar.addi v57 v989
  let v991 : Index := Scalar.indexCast v990
  let c640_1147 : Index := 640#32
  ![v991.toNat, 640]
def k0_off42 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_5 : BitVec 32 := 2#32
  let v12 : BitVec 32 := Scalar.divsi v3 c2_i32_5
  let c512_i32_34 : BitVec 32 := 512#32
  let v50 : BitVec 32 := Scalar.muli v12 c512_i32_34
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c256_i32_39 : BitVec 32 := 256#32
  let v56 : BitVec 32 := Scalar.muli v7 c256_i32_39
  let v57 : BitVec 32 := Scalar.addi v50 v56
  let c4_i32_0 : BitVec 32 := 4#32
  let v4 : BitVec 32 := Scalar.divsi v2 c4_i32_0
  let c64_i32_1161 : BitVec 32 := 64#32
  let v1006 : BitVec 32 := Scalar.muli v4 c64_i32_1161
  let v1007 : BitVec 32 := Scalar.addi v57 v1006
  let c640_i32_1168 : BitVec 32 := 640#32
  ![v1007.toNat, 640]
def k0_dev47 (d0 : Dev nD) : Nat :=
  let c0_i32_1167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v16 : BitVec 32 := Scalar.addi v2 c4_i32_7
  let c16_i32_8 : BitVec 32 := 16#32
  let v17 : BitVec 32 := Scalar.remsi v16 c16_i32_8
  let c1_i32_1166 : BitVec 32 := 1#32
  let v1008 : BitVec 32 := Scalar.muli v17 c1_i32_1166
  let v1009 : BitVec 32 := Scalar.addi c0_i32_1167 v1008
  v1009.toNat
def k0_dev48 (d0 : Dev nD) : Nat :=
  let c0_i32_1175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v18 : BitVec 32 := Scalar.addi v2 c8_i32
  let c16_i32_9 : BitVec 32 := 16#32
  let v19 : BitVec 32 := Scalar.remsi v18 c16_i32_9
  let c1_i32_1174 : BitVec 32 := 1#32
  let v1016 : BitVec 32 := Scalar.muli v19 c1_i32_1174
  let v1017 : BitVec 32 := Scalar.addi c0_i32_1175 v1016
  v1017.toNat
def k0_dev49 (d0 : Dev nD) : Nat :=
  let c0_i32_1183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v20 : BitVec 32 := Scalar.addi v2 c12_i32
  let c16_i32_10 : BitVec 32 := 16#32
  let v21 : BitVec 32 := Scalar.remsi v20 c16_i32_10
  let c1_i32_1182 : BitVec 32 := 1#32
  let v1024 : BitVec 32 := Scalar.muli v21 c1_i32_1182
  let v1025 : BitVec 32 := Scalar.addi c0_i32_1183 v1024
  v1025.toNat
def k0_off43 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_5 : BitVec 32 := 2#32
  let v12 : BitVec 32 := Scalar.divsi v3 c2_i32_5
  let c512_i32_34 : BitVec 32 := 512#32
  let v50 : BitVec 32 := Scalar.muli v12 c512_i32_34
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c256_i32_39 : BitVec 32 := 256#32
  let v56 : BitVec 32 := Scalar.muli v7 c256_i32_39
  let v57 : BitVec 32 := Scalar.addi v50 v56
  let v1044 : Index := Scalar.indexCast v57
  let c768_1205 : Index := 768#32
  ![v1044.toNat, 768]
def k0_off44 (d0 : Dev nD) (c1_i32_1210 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_5 : BitVec 32 := 2#32
  let v12 : BitVec 32 := Scalar.divsi v3 c2_i32_5
  let c512_i32_34 : BitVec 32 := 512#32
  let v50 : BitVec 32 := Scalar.muli v12 c512_i32_34
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c256_i32_39 : BitVec 32 := 256#32
  let v56 : BitVec 32 := Scalar.muli v7 c256_i32_39
  let v57 : BitVec 32 := Scalar.addi v50 v56
  let c4_i32_0 : BitVec 32 := 4#32
  let v4 : BitVec 32 := Scalar.divsi v2 c4_i32_0
  let v1053 : BitVec 32 := Scalar.addi v4 c1_i32_1210
  let c4_i32_1211 : BitVec 32 := 4#32
  let v1054 : BitVec 32 := Scalar.remsi v1053 c4_i32_1211
  let c64_i32_1212 : BitVec 32 := 64#32
  let v1055 : BitVec 32 := Scalar.muli v1054 c64_i32_1212
  let v1056 : BitVec 32 := Scalar.addi v57 v1055
  let c768_i32_1223 : BitVec 32 := 768#32
  ![v1056.toNat, 768]
def k0_dev50 (d0 : Dev nD) : Nat :=
  let c0_i32_1220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v16 : BitVec 32 := Scalar.addi v2 c4_i32_7
  let c16_i32_8 : BitVec 32 := 16#32
  let v17 : BitVec 32 := Scalar.remsi v16 c16_i32_8
  let c1_i32_1219 : BitVec 32 := 1#32
  let v1057 : BitVec 32 := Scalar.muli v17 c1_i32_1219
  let v1058 : BitVec 32 := Scalar.addi c0_i32_1220 v1057
  v1058.toNat
def k0_dev51 (d0 : Dev nD) : Nat :=
  let c0_i32_1234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v18 : BitVec 32 := Scalar.addi v2 c8_i32
  let c16_i32_9 : BitVec 32 := 16#32
  let v19 : BitVec 32 := Scalar.remsi v18 c16_i32_9
  let c1_i32_1233 : BitVec 32 := 1#32
  let v1070 : BitVec 32 := Scalar.muli v19 c1_i32_1233
  let v1071 : BitVec 32 := Scalar.addi c0_i32_1234 v1070
  v1071.toNat
def k0_dev52 (d0 : Dev nD) : Nat :=
  let c0_i32_1248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v20 : BitVec 32 := Scalar.addi v2 c12_i32
  let c16_i32_10 : BitVec 32 := 16#32
  let v21 : BitVec 32 := Scalar.remsi v20 c16_i32_10
  let c1_i32_1247 : BitVec 32 := 1#32
  let v1083 : BitVec 32 := Scalar.muli v21 c1_i32_1247
  let v1084 : BitVec 32 := Scalar.addi c0_i32_1248 v1083
  v1084.toNat
def k0_off45 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_5 : BitVec 32 := 2#32
  let v12 : BitVec 32 := Scalar.divsi v3 c2_i32_5
  let c512_i32_34 : BitVec 32 := 512#32
  let v50 : BitVec 32 := Scalar.muli v12 c512_i32_34
  let v1104 : Index := Scalar.indexCast v50
  let c896 : Index := 896#32
  ![v1104.toNat, 896]
def k0_off46 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_5 : BitVec 32 := 2#32
  let v12 : BitVec 32 := Scalar.divsi v3 c2_i32_5
  let c512_i32_34 : BitVec 32 := 512#32
  let v50 : BitVec 32 := Scalar.muli v12 c512_i32_34
  let c1_i32_37 : BitVec 32 := 1#32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let v53 : BitVec 32 := Scalar.subi c1_i32_37 v7
  let c256_i32_38 : BitVec 32 := 256#32
  let v54 : BitVec 32 := Scalar.muli v53 c256_i32_38
  let v55 : BitVec 32 := Scalar.addi v50 v54
  let c896_i32_1283 : BitVec 32 := 896#32
  ![v55.toNat, 896]
def k0_dev53 (d0 : Dev nD) : Nat :=
  let c0_i32_1280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v8 : BitVec 32 := Scalar.addi v2 c1_i32_2
  let c2_i32_4 : BitVec 32 := 2#32
  let c4_i32 : BitVec 32 := 4#32
  let v3 : BitVec 32 := Scalar.remsi v2 c4_i32
  let c2_i32_3 : BitVec 32 := 2#32
  let v9 : BitVec 32 := Scalar.remsi v3 c2_i32_3
  let v10 : BitVec 32 := Scalar.muli c2_i32_4 v9
  let v11 : BitVec 32 := Scalar.subi v8 v10
  let c1_i32_1279 : BitVec 32 := 1#32
  let v1113 : BitVec 32 := Scalar.muli v11 c1_i32_1279
  let v1114 : BitVec 32 := Scalar.addi c0_i32_1280 v1113
  v1114.toNat
def k0_off47 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c512_i32 : BitVec 32 := 512#32
  let v42 : BitVec 32 := Scalar.muli v7 c512_i32
  let c0_i32_1304 : BitVec 32 := 0#32
  ![v42.toNat, 0]
def k0_dev54 (d0 : Dev nD) : Nat :=
  let c0_i32_1303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v8 : BitVec 32 := Scalar.addi v2 c1_i32_2
  let c2_i32_4 : BitVec 32 := 2#32
  let c4_i32 : BitVec 32 := 4#32
  let v3 : BitVec 32 := Scalar.remsi v2 c4_i32
  let c2_i32_3 : BitVec 32 := 2#32
  let v9 : BitVec 32 := Scalar.remsi v3 c2_i32_3
  let v10 : BitVec 32 := Scalar.muli c2_i32_4 v9
  let v11 : BitVec 32 := Scalar.subi v8 v10
  let c1_i32_1302 : BitVec 32 := 1#32
  let v1132 : BitVec 32 := Scalar.muli v11 c1_i32_1302
  let v1133 : BitVec 32 := Scalar.addi c0_i32_1303 v1132
  v1133.toNat
def k0_off48 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c512_i32 : BitVec 32 := 512#32
  let v42 : BitVec 32 := Scalar.muli v7 c512_i32
  let c2_i32_5 : BitVec 32 := 2#32
  let v12 : BitVec 32 := Scalar.divsi v3 c2_i32_5
  let c256_i32_33 : BitVec 32 := 256#32
  let v48 : BitVec 32 := Scalar.muli v12 c256_i32_33
  let v49 : BitVec 32 := Scalar.addi v42 v48
  let c128_i32_1357 : BitVec 32 := 128#32
  ![v49.toNat, 128]
def k0_dev55 (d0 : Dev nD) : Nat :=
  let c0_i32_1356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 32 := Scalar.addi v2 c3_i32
  let c2_i32_6 : BitVec 32 := 2#32
  let c4_i32 : BitVec 32 := 4#32
  let v3 : BitVec 32 := Scalar.remsi v2 c4_i32
  let v14 : BitVec 32 := Scalar.muli c2_i32_6 v3
  let v15 : BitVec 32 := Scalar.subi v13 v14
  let c1_i32_1355 : BitVec 32 := 1#32
  let v1170 : BitVec 32 := Scalar.muli v15 c1_i32_1355
  let v1171 : BitVec 32 := Scalar.addi c0_i32_1356 v1170
  v1171.toNat
def k0_off49 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c512_i32 : BitVec 32 := 512#32
  let v42 : BitVec 32 := Scalar.muli v7 c512_i32
  let c2_i32_5 : BitVec 32 := 2#32
  let v12 : BitVec 32 := Scalar.divsi v3 c2_i32_5
  let c256_i32_33 : BitVec 32 := 256#32
  let v48 : BitVec 32 := Scalar.muli v12 c256_i32_33
  let v49 : BitVec 32 := Scalar.addi v42 v48
  let c4_i32_0 : BitVec 32 := 4#32
  let v4 : BitVec 32 := Scalar.divsi v2 c4_i32_0
  let c64_i32_1422 : BitVec 32 := 64#32
  let v1214 : BitVec 32 := Scalar.muli v4 c64_i32_1422
  let v1215 : BitVec 32 := Scalar.addi v49 v1214
  let v1216 : Index := Scalar.indexCast v1215
  let c256_1423 : Index := 256#32
  ![v1216.toNat, 256]
def k0_off50 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c512_i32 : BitVec 32 := 512#32
  let v42 : BitVec 32 := Scalar.muli v7 c512_i32
  let c2_i32_5 : BitVec 32 := 2#32
  let v12 : BitVec 32 := Scalar.divsi v3 c2_i32_5
  let c256_i32_33 : BitVec 32 := 256#32
  let v48 : BitVec 32 := Scalar.muli v12 c256_i32_33
  let v49 : BitVec 32 := Scalar.addi v42 v48
  let c4_i32_0 : BitVec 32 := 4#32
  let v4 : BitVec 32 := Scalar.divsi v2 c4_i32_0
  let c64_i32_1437 : BitVec 32 := 64#32
  let v1231 : BitVec 32 := Scalar.muli v4 c64_i32_1437
  let v1232 : BitVec 32 := Scalar.addi v49 v1231
  let c256_i32_1444 : BitVec 32 := 256#32
  ![v1232.toNat, 256]
def k0_dev56 (d0 : Dev nD) : Nat :=
  let c0_i32_1443 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v16 : BitVec 32 := Scalar.addi v2 c4_i32_7
  let c16_i32_8 : BitVec 32 := 16#32
  let v17 : BitVec 32 := Scalar.remsi v16 c16_i32_8
  let c1_i32_1442 : BitVec 32 := 1#32
  let v1233 : BitVec 32 := Scalar.muli v17 c1_i32_1442
  let v1234 : BitVec 32 := Scalar.addi c0_i32_1443 v1233
  v1234.toNat
def k0_dev57 (d0 : Dev nD) : Nat :=
  let c0_i32_1451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v18 : BitVec 32 := Scalar.addi v2 c8_i32
  let c16_i32_9 : BitVec 32 := 16#32
  let v19 : BitVec 32 := Scalar.remsi v18 c16_i32_9
  let c1_i32_1450 : BitVec 32 := 1#32
  let v1241 : BitVec 32 := Scalar.muli v19 c1_i32_1450
  let v1242 : BitVec 32 := Scalar.addi c0_i32_1451 v1241
  v1242.toNat
def k0_dev58 (d0 : Dev nD) : Nat :=
  let c0_i32_1459 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v20 : BitVec 32 := Scalar.addi v2 c12_i32
  let c16_i32_10 : BitVec 32 := 16#32
  let v21 : BitVec 32 := Scalar.remsi v20 c16_i32_10
  let c1_i32_1458 : BitVec 32 := 1#32
  let v1249 : BitVec 32 := Scalar.muli v21 c1_i32_1458
  let v1250 : BitVec 32 := Scalar.addi c0_i32_1459 v1249
  v1250.toNat
def k0_off51 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c512_i32 : BitVec 32 := 512#32
  let v42 : BitVec 32 := Scalar.muli v7 c512_i32
  let c2_i32_5 : BitVec 32 := 2#32
  let v12 : BitVec 32 := Scalar.divsi v3 c2_i32_5
  let c256_i32_33 : BitVec 32 := 256#32
  let v48 : BitVec 32 := Scalar.muli v12 c256_i32_33
  let v49 : BitVec 32 := Scalar.addi v42 v48
  let v1269 : Index := Scalar.indexCast v49
  let c384_1481 : Index := 384#32
  ![v1269.toNat, 384]
def k0_off52 (d0 : Dev nD) (c1_i32_1486 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c512_i32 : BitVec 32 := 512#32
  let v42 : BitVec 32 := Scalar.muli v7 c512_i32
  let c2_i32_5 : BitVec 32 := 2#32
  let v12 : BitVec 32 := Scalar.divsi v3 c2_i32_5
  let c256_i32_33 : BitVec 32 := 256#32
  let v48 : BitVec 32 := Scalar.muli v12 c256_i32_33
  let v49 : BitVec 32 := Scalar.addi v42 v48
  let c4_i32_0 : BitVec 32 := 4#32
  let v4 : BitVec 32 := Scalar.divsi v2 c4_i32_0
  let v1278 : BitVec 32 := Scalar.addi v4 c1_i32_1486
  let c4_i32_1487 : BitVec 32 := 4#32
  let v1279 : BitVec 32 := Scalar.remsi v1278 c4_i32_1487
  let c64_i32_1488 : BitVec 32 := 64#32
  let v1280 : BitVec 32 := Scalar.muli v1279 c64_i32_1488
  let v1281 : BitVec 32 := Scalar.addi v49 v1280
  let c384_i32_1499 : BitVec 32 := 384#32
  ![v1281.toNat, 384]
def k0_dev59 (d0 : Dev nD) : Nat :=
  let c0_i32_1496 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v16 : BitVec 32 := Scalar.addi v2 c4_i32_7
  let c16_i32_8 : BitVec 32 := 16#32
  let v17 : BitVec 32 := Scalar.remsi v16 c16_i32_8
  let c1_i32_1495 : BitVec 32 := 1#32
  let v1282 : BitVec 32 := Scalar.muli v17 c1_i32_1495
  let v1283 : BitVec 32 := Scalar.addi c0_i32_1496 v1282
  v1283.toNat
def k0_dev60 (d0 : Dev nD) : Nat :=
  let c0_i32_1510 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v18 : BitVec 32 := Scalar.addi v2 c8_i32
  let c16_i32_9 : BitVec 32 := 16#32
  let v19 : BitVec 32 := Scalar.remsi v18 c16_i32_9
  let c1_i32_1509 : BitVec 32 := 1#32
  let v1295 : BitVec 32 := Scalar.muli v19 c1_i32_1509
  let v1296 : BitVec 32 := Scalar.addi c0_i32_1510 v1295
  v1296.toNat
def k0_dev61 (d0 : Dev nD) : Nat :=
  let c0_i32_1524 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v20 : BitVec 32 := Scalar.addi v2 c12_i32
  let c16_i32_10 : BitVec 32 := 16#32
  let v21 : BitVec 32 := Scalar.remsi v20 c16_i32_10
  let c1_i32_1523 : BitVec 32 := 1#32
  let v1308 : BitVec 32 := Scalar.muli v21 c1_i32_1523
  let v1309 : BitVec 32 := Scalar.addi c0_i32_1524 v1308
  v1309.toNat
def k0_off53 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_5 : BitVec 32 := 2#32
  let v12 : BitVec 32 := Scalar.divsi v3 c2_i32_5
  let c512_i32_34 : BitVec 32 := 512#32
  let v50 : BitVec 32 := Scalar.muli v12 c512_i32_34
  let c512_i32_1549 : BitVec 32 := 512#32
  ![v50.toNat, 512]
def k0_dev62 (d0 : Dev nD) : Nat :=
  let c0_i32_1548 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 32 := Scalar.addi v2 c3_i32
  let c2_i32_6 : BitVec 32 := 2#32
  let c4_i32 : BitVec 32 := 4#32
  let v3 : BitVec 32 := Scalar.remsi v2 c4_i32
  let v14 : BitVec 32 := Scalar.muli c2_i32_6 v3
  let v15 : BitVec 32 := Scalar.subi v13 v14
  let c1_i32_1547 : BitVec 32 := 1#32
  let v1327 : BitVec 32 := Scalar.muli v15 c1_i32_1547
  let v1328 : BitVec 32 := Scalar.addi c0_i32_1548 v1327
  v1328.toNat
def k0_off54 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_5 : BitVec 32 := 2#32
  let v12 : BitVec 32 := Scalar.divsi v3 c2_i32_5
  let c512_i32_34 : BitVec 32 := 512#32
  let v50 : BitVec 32 := Scalar.muli v12 c512_i32_34
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c256_i32_39 : BitVec 32 := 256#32
  let v56 : BitVec 32 := Scalar.muli v7 c256_i32_39
  let v57 : BitVec 32 := Scalar.addi v50 v56
  let c640_i32_1602 : BitVec 32 := 640#32
  ![v57.toNat, 640]
def k0_dev63 (d0 : Dev nD) : Nat :=
  let c0_i32_1601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v8 : BitVec 32 := Scalar.addi v2 c1_i32_2
  let c2_i32_4 : BitVec 32 := 2#32
  let c4_i32 : BitVec 32 := 4#32
  let v3 : BitVec 32 := Scalar.remsi v2 c4_i32
  let c2_i32_3 : BitVec 32 := 2#32
  let v9 : BitVec 32 := Scalar.remsi v3 c2_i32_3
  let v10 : BitVec 32 := Scalar.muli c2_i32_4 v9
  let v11 : BitVec 32 := Scalar.subi v8 v10
  let c1_i32_1600 : BitVec 32 := 1#32
  let v1365 : BitVec 32 := Scalar.muli v11 c1_i32_1600
  let v1366 : BitVec 32 := Scalar.addi c0_i32_1601 v1365
  v1366.toNat
def k0_off55 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_5 : BitVec 32 := 2#32
  let v12 : BitVec 32 := Scalar.divsi v3 c2_i32_5
  let c512_i32_34 : BitVec 32 := 512#32
  let v50 : BitVec 32 := Scalar.muli v12 c512_i32_34
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c256_i32_39 : BitVec 32 := 256#32
  let v56 : BitVec 32 := Scalar.muli v7 c256_i32_39
  let v57 : BitVec 32 := Scalar.addi v50 v56
  let c4_i32_0 : BitVec 32 := 4#32
  let v4 : BitVec 32 := Scalar.divsi v2 c4_i32_0
  let c64_i32_1667 : BitVec 32 := 64#32
  let v1409 : BitVec 32 := Scalar.muli v4 c64_i32_1667
  let v1410 : BitVec 32 := Scalar.addi v57 v1409
  let v1411 : Index := Scalar.indexCast v1410
  let c768_1668 : Index := 768#32
  ![v1411.toNat, 768]
def k0_off56 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_5 : BitVec 32 := 2#32
  let v12 : BitVec 32 := Scalar.divsi v3 c2_i32_5
  let c512_i32_34 : BitVec 32 := 512#32
  let v50 : BitVec 32 := Scalar.muli v12 c512_i32_34
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c256_i32_39 : BitVec 32 := 256#32
  let v56 : BitVec 32 := Scalar.muli v7 c256_i32_39
  let v57 : BitVec 32 := Scalar.addi v50 v56
  let c4_i32_0 : BitVec 32 := 4#32
  let v4 : BitVec 32 := Scalar.divsi v2 c4_i32_0
  let c64_i32_1682 : BitVec 32 := 64#32
  let v1426 : BitVec 32 := Scalar.muli v4 c64_i32_1682
  let v1427 : BitVec 32 := Scalar.addi v57 v1426
  let c768_i32_1689 : BitVec 32 := 768#32
  ![v1427.toNat, 768]
def k0_dev64 (d0 : Dev nD) : Nat :=
  let c0_i32_1688 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v16 : BitVec 32 := Scalar.addi v2 c4_i32_7
  let c16_i32_8 : BitVec 32 := 16#32
  let v17 : BitVec 32 := Scalar.remsi v16 c16_i32_8
  let c1_i32_1687 : BitVec 32 := 1#32
  let v1428 : BitVec 32 := Scalar.muli v17 c1_i32_1687
  let v1429 : BitVec 32 := Scalar.addi c0_i32_1688 v1428
  v1429.toNat
def k0_dev65 (d0 : Dev nD) : Nat :=
  let c0_i32_1696 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v18 : BitVec 32 := Scalar.addi v2 c8_i32
  let c16_i32_9 : BitVec 32 := 16#32
  let v19 : BitVec 32 := Scalar.remsi v18 c16_i32_9
  let c1_i32_1695 : BitVec 32 := 1#32
  let v1436 : BitVec 32 := Scalar.muli v19 c1_i32_1695
  let v1437 : BitVec 32 := Scalar.addi c0_i32_1696 v1436
  v1437.toNat
def k0_dev66 (d0 : Dev nD) : Nat :=
  let c0_i32_1704 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v20 : BitVec 32 := Scalar.addi v2 c12_i32
  let c16_i32_10 : BitVec 32 := 16#32
  let v21 : BitVec 32 := Scalar.remsi v20 c16_i32_10
  let c1_i32_1703 : BitVec 32 := 1#32
  let v1444 : BitVec 32 := Scalar.muli v21 c1_i32_1703
  let v1445 : BitVec 32 := Scalar.addi c0_i32_1704 v1444
  v1445.toNat
def k0_off57 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_5 : BitVec 32 := 2#32
  let v12 : BitVec 32 := Scalar.divsi v3 c2_i32_5
  let c512_i32_34 : BitVec 32 := 512#32
  let v50 : BitVec 32 := Scalar.muli v12 c512_i32_34
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c256_i32_39 : BitVec 32 := 256#32
  let v56 : BitVec 32 := Scalar.muli v7 c256_i32_39
  let v57 : BitVec 32 := Scalar.addi v50 v56
  let v1464 : Index := Scalar.indexCast v57
  let c896_1726 : Index := 896#32
  ![v1464.toNat, 896]
def k0_off58 (d0 : Dev nD) (c1_i32_1731 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_5 : BitVec 32 := 2#32
  let v12 : BitVec 32 := Scalar.divsi v3 c2_i32_5
  let c512_i32_34 : BitVec 32 := 512#32
  let v50 : BitVec 32 := Scalar.muli v12 c512_i32_34
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c256_i32_39 : BitVec 32 := 256#32
  let v56 : BitVec 32 := Scalar.muli v7 c256_i32_39
  let v57 : BitVec 32 := Scalar.addi v50 v56
  let c4_i32_0 : BitVec 32 := 4#32
  let v4 : BitVec 32 := Scalar.divsi v2 c4_i32_0
  let v1473 : BitVec 32 := Scalar.addi v4 c1_i32_1731
  let c4_i32_1732 : BitVec 32 := 4#32
  let v1474 : BitVec 32 := Scalar.remsi v1473 c4_i32_1732
  let c64_i32_1733 : BitVec 32 := 64#32
  let v1475 : BitVec 32 := Scalar.muli v1474 c64_i32_1733
  let v1476 : BitVec 32 := Scalar.addi v57 v1475
  let c896_i32_1744 : BitVec 32 := 896#32
  ![v1476.toNat, 896]
def k0_dev67 (d0 : Dev nD) : Nat :=
  let c0_i32_1741 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v16 : BitVec 32 := Scalar.addi v2 c4_i32_7
  let c16_i32_8 : BitVec 32 := 16#32
  let v17 : BitVec 32 := Scalar.remsi v16 c16_i32_8
  let c1_i32_1740 : BitVec 32 := 1#32
  let v1477 : BitVec 32 := Scalar.muli v17 c1_i32_1740
  let v1478 : BitVec 32 := Scalar.addi c0_i32_1741 v1477
  v1478.toNat
def k0_dev68 (d0 : Dev nD) : Nat :=
  let c0_i32_1755 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v18 : BitVec 32 := Scalar.addi v2 c8_i32
  let c16_i32_9 : BitVec 32 := 16#32
  let v19 : BitVec 32 := Scalar.remsi v18 c16_i32_9
  let c1_i32_1754 : BitVec 32 := 1#32
  let v1490 : BitVec 32 := Scalar.muli v19 c1_i32_1754
  let v1491 : BitVec 32 := Scalar.addi c0_i32_1755 v1490
  v1491.toNat
def k0_dev69 (d0 : Dev nD) : Nat :=
  let c0_i32_1769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v20 : BitVec 32 := Scalar.addi v2 c12_i32
  let c16_i32_10 : BitVec 32 := 16#32
  let v21 : BitVec 32 := Scalar.remsi v20 c16_i32_10
  let c1_i32_1768 : BitVec 32 := 1#32
  let v1503 : BitVec 32 := Scalar.muli v21 c1_i32_1768
  let v1504 : BitVec 32 := Scalar.addi c0_i32_1769 v1503
  v1504.toNat
def k0_off59 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c512_i32 : BitVec 32 := 512#32
  let v42 : BitVec 32 := Scalar.muli v7 c512_i32
  let c128_i32_1813 : BitVec 32 := 128#32
  ![v42.toNat, 128]
def k0_dev70 (d0 : Dev nD) : Nat :=
  let c0_i32_1812 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v8 : BitVec 32 := Scalar.addi v2 c1_i32_2
  let c2_i32_4 : BitVec 32 := 2#32
  let c4_i32 : BitVec 32 := 4#32
  let v3 : BitVec 32 := Scalar.remsi v2 c4_i32
  let c2_i32_3 : BitVec 32 := 2#32
  let v9 : BitVec 32 := Scalar.remsi v3 c2_i32_3
  let v10 : BitVec 32 := Scalar.muli c2_i32_4 v9
  let v11 : BitVec 32 := Scalar.subi v8 v10
  let c1_i32_1811 : BitVec 32 := 1#32
  let v1535 : BitVec 32 := Scalar.muli v11 c1_i32_1811
  let v1536 : BitVec 32 := Scalar.addi c0_i32_1812 v1535
  v1536.toNat
def k0_off60 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c512_i32 : BitVec 32 := 512#32
  let v42 : BitVec 32 := Scalar.muli v7 c512_i32
  let c2_i32_5 : BitVec 32 := 2#32
  let v12 : BitVec 32 := Scalar.divsi v3 c2_i32_5
  let c256_i32_33 : BitVec 32 := 256#32
  let v48 : BitVec 32 := Scalar.muli v12 c256_i32_33
  let v49 : BitVec 32 := Scalar.addi v42 v48
  let c256_i32_1866 : BitVec 32 := 256#32
  ![v49.toNat, 256]
def k0_dev71 (d0 : Dev nD) : Nat :=
  let c0_i32_1865 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 32 := Scalar.addi v2 c3_i32
  let c2_i32_6 : BitVec 32 := 2#32
  let c4_i32 : BitVec 32 := 4#32
  let v3 : BitVec 32 := Scalar.remsi v2 c4_i32
  let v14 : BitVec 32 := Scalar.muli c2_i32_6 v3
  let v15 : BitVec 32 := Scalar.subi v13 v14
  let c1_i32_1864 : BitVec 32 := 1#32
  let v1573 : BitVec 32 := Scalar.muli v15 c1_i32_1864
  let v1574 : BitVec 32 := Scalar.addi c0_i32_1865 v1573
  v1574.toNat
def k0_off61 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c512_i32 : BitVec 32 := 512#32
  let v42 : BitVec 32 := Scalar.muli v7 c512_i32
  let c2_i32_5 : BitVec 32 := 2#32
  let v12 : BitVec 32 := Scalar.divsi v3 c2_i32_5
  let c256_i32_33 : BitVec 32 := 256#32
  let v48 : BitVec 32 := Scalar.muli v12 c256_i32_33
  let v49 : BitVec 32 := Scalar.addi v42 v48
  let c4_i32_0 : BitVec 32 := 4#32
  let v4 : BitVec 32 := Scalar.divsi v2 c4_i32_0
  let c64_i32_1931 : BitVec 32 := 64#32
  let v1617 : BitVec 32 := Scalar.muli v4 c64_i32_1931
  let v1618 : BitVec 32 := Scalar.addi v49 v1617
  let v1619 : Index := Scalar.indexCast v1618
  let c384_1932 : Index := 384#32
  ![v1619.toNat, 384]
def k0_off62 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c512_i32 : BitVec 32 := 512#32
  let v42 : BitVec 32 := Scalar.muli v7 c512_i32
  let c2_i32_5 : BitVec 32 := 2#32
  let v12 : BitVec 32 := Scalar.divsi v3 c2_i32_5
  let c256_i32_33 : BitVec 32 := 256#32
  let v48 : BitVec 32 := Scalar.muli v12 c256_i32_33
  let v49 : BitVec 32 := Scalar.addi v42 v48
  let c4_i32_0 : BitVec 32 := 4#32
  let v4 : BitVec 32 := Scalar.divsi v2 c4_i32_0
  let c64_i32_1946 : BitVec 32 := 64#32
  let v1634 : BitVec 32 := Scalar.muli v4 c64_i32_1946
  let v1635 : BitVec 32 := Scalar.addi v49 v1634
  let c384_i32_1953 : BitVec 32 := 384#32
  ![v1635.toNat, 384]
def k0_dev72 (d0 : Dev nD) : Nat :=
  let c0_i32_1952 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v16 : BitVec 32 := Scalar.addi v2 c4_i32_7
  let c16_i32_8 : BitVec 32 := 16#32
  let v17 : BitVec 32 := Scalar.remsi v16 c16_i32_8
  let c1_i32_1951 : BitVec 32 := 1#32
  let v1636 : BitVec 32 := Scalar.muli v17 c1_i32_1951
  let v1637 : BitVec 32 := Scalar.addi c0_i32_1952 v1636
  v1637.toNat
def k0_dev73 (d0 : Dev nD) : Nat :=
  let c0_i32_1960 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v18 : BitVec 32 := Scalar.addi v2 c8_i32
  let c16_i32_9 : BitVec 32 := 16#32
  let v19 : BitVec 32 := Scalar.remsi v18 c16_i32_9
  let c1_i32_1959 : BitVec 32 := 1#32
  let v1644 : BitVec 32 := Scalar.muli v19 c1_i32_1959
  let v1645 : BitVec 32 := Scalar.addi c0_i32_1960 v1644
  v1645.toNat
def k0_dev74 (d0 : Dev nD) : Nat :=
  let c0_i32_1968 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v20 : BitVec 32 := Scalar.addi v2 c12_i32
  let c16_i32_10 : BitVec 32 := 16#32
  let v21 : BitVec 32 := Scalar.remsi v20 c16_i32_10
  let c1_i32_1967 : BitVec 32 := 1#32
  let v1652 : BitVec 32 := Scalar.muli v21 c1_i32_1967
  let v1653 : BitVec 32 := Scalar.addi c0_i32_1968 v1652
  v1653.toNat
def k0_off63 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_5 : BitVec 32 := 2#32
  let v12 : BitVec 32 := Scalar.divsi v3 c2_i32_5
  let c512_i32_34 : BitVec 32 := 512#32
  let v50 : BitVec 32 := Scalar.muli v12 c512_i32_34
  let c640_i32_2011 : BitVec 32 := 640#32
  ![v50.toNat, 640]
def k0_dev75 (d0 : Dev nD) : Nat :=
  let c0_i32_2010 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 32 := Scalar.addi v2 c3_i32
  let c2_i32_6 : BitVec 32 := 2#32
  let c4_i32 : BitVec 32 := 4#32
  let v3 : BitVec 32 := Scalar.remsi v2 c4_i32
  let v14 : BitVec 32 := Scalar.muli c2_i32_6 v3
  let v15 : BitVec 32 := Scalar.subi v13 v14
  let c1_i32_2009 : BitVec 32 := 1#32
  let v1683 : BitVec 32 := Scalar.muli v15 c1_i32_2009
  let v1684 : BitVec 32 := Scalar.addi c0_i32_2010 v1683
  v1684.toNat
def k0_off64 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_5 : BitVec 32 := 2#32
  let v12 : BitVec 32 := Scalar.divsi v3 c2_i32_5
  let c512_i32_34 : BitVec 32 := 512#32
  let v50 : BitVec 32 := Scalar.muli v12 c512_i32_34
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c256_i32_39 : BitVec 32 := 256#32
  let v56 : BitVec 32 := Scalar.muli v7 c256_i32_39
  let v57 : BitVec 32 := Scalar.addi v50 v56
  let c768_i32_2064 : BitVec 32 := 768#32
  ![v57.toNat, 768]
def k0_dev76 (d0 : Dev nD) : Nat :=
  let c0_i32_2063 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v8 : BitVec 32 := Scalar.addi v2 c1_i32_2
  let c2_i32_4 : BitVec 32 := 2#32
  let c4_i32 : BitVec 32 := 4#32
  let v3 : BitVec 32 := Scalar.remsi v2 c4_i32
  let c2_i32_3 : BitVec 32 := 2#32
  let v9 : BitVec 32 := Scalar.remsi v3 c2_i32_3
  let v10 : BitVec 32 := Scalar.muli c2_i32_4 v9
  let v11 : BitVec 32 := Scalar.subi v8 v10
  let c1_i32_2062 : BitVec 32 := 1#32
  let v1721 : BitVec 32 := Scalar.muli v11 c1_i32_2062
  let v1722 : BitVec 32 := Scalar.addi c0_i32_2063 v1721
  v1722.toNat
def k0_off65 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_5 : BitVec 32 := 2#32
  let v12 : BitVec 32 := Scalar.divsi v3 c2_i32_5
  let c512_i32_34 : BitVec 32 := 512#32
  let v50 : BitVec 32 := Scalar.muli v12 c512_i32_34
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c256_i32_39 : BitVec 32 := 256#32
  let v56 : BitVec 32 := Scalar.muli v7 c256_i32_39
  let v57 : BitVec 32 := Scalar.addi v50 v56
  let c4_i32_0 : BitVec 32 := 4#32
  let v4 : BitVec 32 := Scalar.divsi v2 c4_i32_0
  let c64_i32_2129 : BitVec 32 := 64#32
  let v1765 : BitVec 32 := Scalar.muli v4 c64_i32_2129
  let v1766 : BitVec 32 := Scalar.addi v57 v1765
  let v1767 : Index := Scalar.indexCast v1766
  let c896_2130 : Index := 896#32
  ![v1767.toNat, 896]
def k0_off66 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_5 : BitVec 32 := 2#32
  let v12 : BitVec 32 := Scalar.divsi v3 c2_i32_5
  let c512_i32_34 : BitVec 32 := 512#32
  let v50 : BitVec 32 := Scalar.muli v12 c512_i32_34
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c256_i32_39 : BitVec 32 := 256#32
  let v56 : BitVec 32 := Scalar.muli v7 c256_i32_39
  let v57 : BitVec 32 := Scalar.addi v50 v56
  let c4_i32_0 : BitVec 32 := 4#32
  let v4 : BitVec 32 := Scalar.divsi v2 c4_i32_0
  let c64_i32_2144 : BitVec 32 := 64#32
  let v1782 : BitVec 32 := Scalar.muli v4 c64_i32_2144
  let v1783 : BitVec 32 := Scalar.addi v57 v1782
  let c896_i32_2151 : BitVec 32 := 896#32
  ![v1783.toNat, 896]
def k0_dev77 (d0 : Dev nD) : Nat :=
  let c0_i32_2150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v16 : BitVec 32 := Scalar.addi v2 c4_i32_7
  let c16_i32_8 : BitVec 32 := 16#32
  let v17 : BitVec 32 := Scalar.remsi v16 c16_i32_8
  let c1_i32_2149 : BitVec 32 := 1#32
  let v1784 : BitVec 32 := Scalar.muli v17 c1_i32_2149
  let v1785 : BitVec 32 := Scalar.addi c0_i32_2150 v1784
  v1785.toNat
def k0_dev78 (d0 : Dev nD) : Nat :=
  let c0_i32_2158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v18 : BitVec 32 := Scalar.addi v2 c8_i32
  let c16_i32_9 : BitVec 32 := 16#32
  let v19 : BitVec 32 := Scalar.remsi v18 c16_i32_9
  let c1_i32_2157 : BitVec 32 := 1#32
  let v1792 : BitVec 32 := Scalar.muli v19 c1_i32_2157
  let v1793 : BitVec 32 := Scalar.addi c0_i32_2158 v1792
  v1793.toNat
def k0_dev79 (d0 : Dev nD) : Nat :=
  let c0_i32_2166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v20 : BitVec 32 := Scalar.addi v2 c12_i32
  let c16_i32_10 : BitVec 32 := 16#32
  let v21 : BitVec 32 := Scalar.remsi v20 c16_i32_10
  let c1_i32_2165 : BitVec 32 := 1#32
  let v1800 : BitVec 32 := Scalar.muli v21 c1_i32_2165
  let v1801 : BitVec 32 := Scalar.addi c0_i32_2166 v1800
  v1801.toNat
def k0_off67 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c512_i32 : BitVec 32 := 512#32
  let v42 : BitVec 32 := Scalar.muli v7 c512_i32
  let c256_i32_2209 : BitVec 32 := 256#32
  ![v42.toNat, 256]
def k0_dev80 (d0 : Dev nD) : Nat :=
  let c0_i32_2208 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v8 : BitVec 32 := Scalar.addi v2 c1_i32_2
  let c2_i32_4 : BitVec 32 := 2#32
  let c4_i32 : BitVec 32 := 4#32
  let v3 : BitVec 32 := Scalar.remsi v2 c4_i32
  let c2_i32_3 : BitVec 32 := 2#32
  let v9 : BitVec 32 := Scalar.remsi v3 c2_i32_3
  let v10 : BitVec 32 := Scalar.muli c2_i32_4 v9
  let v11 : BitVec 32 := Scalar.subi v8 v10
  let c1_i32_2207 : BitVec 32 := 1#32
  let v1831 : BitVec 32 := Scalar.muli v11 c1_i32_2207
  let v1832 : BitVec 32 := Scalar.addi c0_i32_2208 v1831
  v1832.toNat
def k0_off68 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c512_i32 : BitVec 32 := 512#32
  let v42 : BitVec 32 := Scalar.muli v7 c512_i32
  let c2_i32_5 : BitVec 32 := 2#32
  let v12 : BitVec 32 := Scalar.divsi v3 c2_i32_5
  let c256_i32_33 : BitVec 32 := 256#32
  let v48 : BitVec 32 := Scalar.muli v12 c256_i32_33
  let v49 : BitVec 32 := Scalar.addi v42 v48
  let c384_i32_2262 : BitVec 32 := 384#32
  ![v49.toNat, 384]
def k0_dev81 (d0 : Dev nD) : Nat :=
  let c0_i32_2261 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 32 := Scalar.addi v2 c3_i32
  let c2_i32_6 : BitVec 32 := 2#32
  let c4_i32 : BitVec 32 := 4#32
  let v3 : BitVec 32 := Scalar.remsi v2 c4_i32
  let v14 : BitVec 32 := Scalar.muli c2_i32_6 v3
  let v15 : BitVec 32 := Scalar.subi v13 v14
  let c1_i32_2260 : BitVec 32 := 1#32
  let v1869 : BitVec 32 := Scalar.muli v15 c1_i32_2260
  let v1870 : BitVec 32 := Scalar.addi c0_i32_2261 v1869
  v1870.toNat
def k0_off69 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_5 : BitVec 32 := 2#32
  let v12 : BitVec 32 := Scalar.divsi v3 c2_i32_5
  let c512_i32_34 : BitVec 32 := 512#32
  let v50 : BitVec 32 := Scalar.muli v12 c512_i32_34
  let c768_i32_2304 : BitVec 32 := 768#32
  ![v50.toNat, 768]
def k0_dev82 (d0 : Dev nD) : Nat :=
  let c0_i32_2303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 32 := Scalar.addi v2 c3_i32
  let c2_i32_6 : BitVec 32 := 2#32
  let c4_i32 : BitVec 32 := 4#32
  let v3 : BitVec 32 := Scalar.remsi v2 c4_i32
  let v14 : BitVec 32 := Scalar.muli c2_i32_6 v3
  let v15 : BitVec 32 := Scalar.subi v13 v14
  let c1_i32_2302 : BitVec 32 := 1#32
  let v1900 : BitVec 32 := Scalar.muli v15 c1_i32_2302
  let v1901 : BitVec 32 := Scalar.addi c0_i32_2303 v1900
  v1901.toNat
def k0_off70 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_5 : BitVec 32 := 2#32
  let v12 : BitVec 32 := Scalar.divsi v3 c2_i32_5
  let c512_i32_34 : BitVec 32 := 512#32
  let v50 : BitVec 32 := Scalar.muli v12 c512_i32_34
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c256_i32_39 : BitVec 32 := 256#32
  let v56 : BitVec 32 := Scalar.muli v7 c256_i32_39
  let v57 : BitVec 32 := Scalar.addi v50 v56
  let c896_i32_2357 : BitVec 32 := 896#32
  ![v57.toNat, 896]
def k0_dev83 (d0 : Dev nD) : Nat :=
  let c0_i32_2356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v8 : BitVec 32 := Scalar.addi v2 c1_i32_2
  let c2_i32_4 : BitVec 32 := 2#32
  let c4_i32 : BitVec 32 := 4#32
  let v3 : BitVec 32 := Scalar.remsi v2 c4_i32
  let c2_i32_3 : BitVec 32 := 2#32
  let v9 : BitVec 32 := Scalar.remsi v3 c2_i32_3
  let v10 : BitVec 32 := Scalar.muli c2_i32_4 v9
  let v11 : BitVec 32 := Scalar.subi v8 v10
  let c1_i32_2355 : BitVec 32 := 1#32
  let v1938 : BitVec 32 := Scalar.muli v11 c1_i32_2355
  let v1939 : BitVec 32 := Scalar.addi c0_i32_2356 v1938
  v1939.toNat
def k0_off71 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32 : BitVec 32 := 2#32
  let v5 : BitVec 32 := Scalar.remsi v3 c2_i32
  let c2_i32_1 : BitVec 32 := 2#32
  let v6 : BitVec 32 := Scalar.divsi v3 c2_i32_1
  let v7 : BitVec 32 := Scalar.xori v5 v6
  let c512_i32 : BitVec 32 := 512#32
  let v42 : BitVec 32 := Scalar.muli v7 c512_i32
  let c384_i32_2399 : BitVec 32 := 384#32
  ![v42.toNat, 384]
def k0_dev84 (d0 : Dev nD) : Nat :=
  let c0_i32_2398 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v8 : BitVec 32 := Scalar.addi v2 c1_i32_2
  let c2_i32_4 : BitVec 32 := 2#32
  let c4_i32 : BitVec 32 := 4#32
  let v3 : BitVec 32 := Scalar.remsi v2 c4_i32
  let c2_i32_3 : BitVec 32 := 2#32
  let v9 : BitVec 32 := Scalar.remsi v3 c2_i32_3
  let v10 : BitVec 32 := Scalar.muli c2_i32_4 v9
  let v11 : BitVec 32 := Scalar.subi v8 v10
  let c1_i32_2397 : BitVec 32 := 1#32
  let v1969 : BitVec 32 := Scalar.muli v11 c1_i32_2397
  let v1970 : BitVec 32 := Scalar.addi c0_i32_2398 v1969
  v1970.toNat
def k0_off72 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_5 : BitVec 32 := 2#32
  let v12 : BitVec 32 := Scalar.divsi v3 c2_i32_5
  let c512_i32_34 : BitVec 32 := 512#32
  let v50 : BitVec 32 := Scalar.muli v12 c512_i32_34
  let c896_i32_2441 : BitVec 32 := 896#32
  ![v50.toNat, 896]
def k0_dev85 (d0 : Dev nD) : Nat :=
  let c0_i32_2440 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 32 := Scalar.addi v2 c3_i32
  let c2_i32_6 : BitVec 32 := 2#32
  let c4_i32 : BitVec 32 := 4#32
  let v3 : BitVec 32 := Scalar.remsi v2 c4_i32
  let v14 : BitVec 32 := Scalar.muli c2_i32_6 v3
  let v15 : BitVec 32 := Scalar.subi v13 v14
  let c1_i32_2439 : BitVec 32 := 1#32
  let v2000 : BitVec 32 := Scalar.muli v15 c1_i32_2439
  let v2001 : BitVec 32 := Scalar.addi c0_i32_2440 v2000
  v2001.toNat
abbrev stage0_0 : Fin 1 → Memref sig .tc .vmem S1024x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .bf16⟩
  | .hbm, ⟨6, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.KernelIdeal.Prog.lean ====
module

public import proofs.«01_k».proof.Proof.Gen.KernelIdeal.Skeleton
public import proofs.«01_k».proof.Proof.Gen.KernelIdeal.Points
public import proofs.«01_k».proof.Proof.Gen.KernelIdeal.Launch

/-! # The kernel body as a schedule of steps

The printed body is a long straight line.  Here it is written as a prefix (the barrier handshake and
the local product) followed by a list of 56 steps, one for each of the eight column units and each of the
seven positions of a unit's own course.  The last theorem says that the printed body is this program. -/

@[expose] public section

set_option maxRecDepth 65536

noncomputable section

namespace Cert.KernelIdeal.K

open Idealize.ShloMosaic Idealize.SL.Sem
open Cert.KernelIdeal Cert.KernelIdeal.Gen

variable {F : FTy → Type} [FloatOps F]

/-! ## Tables of the printed offsets and devices -/

/-- The corner, in the accumulator, of the rectangle that transfer `s` of column unit `u` reads on device `c`. -/
def srcOff (c : Dev nD) : Fin 8 → Fin 10 → Fin 2 → Nat
  | ⟨0, _⟩, ⟨0, _⟩ => k0_off1 c
  | ⟨1, _⟩, ⟨0, _⟩ => k0_off5 c
  | ⟨2, _⟩, ⟨0, _⟩ => k0_off13 c
  | ⟨3, _⟩, ⟨0, _⟩ => k0_off25 c
  | ⟨4, _⟩, ⟨0, _⟩ => k0_off2 c
  | ⟨5, _⟩, ⟨0, _⟩ => k0_off8 c
  | ⟨6, _⟩, ⟨0, _⟩ => k0_off18 c
  | ⟨7, _⟩, ⟨0, _⟩ => k0_off32 c
  | ⟨0, _⟩, ⟨1, _⟩ => k0_off4 c
  | ⟨1, _⟩, ⟨1, _⟩ => k0_off12 c
  | ⟨2, _⟩, ⟨1, _⟩ => k0_off24 c
  | ⟨3, _⟩, ⟨1, _⟩ => k0_off39 c
  | ⟨4, _⟩, ⟨1, _⟩ => k0_off7 c
  | ⟨5, _⟩, ⟨1, _⟩ => k0_off17 c
  | ⟨6, _⟩, ⟨1, _⟩ => k0_off31 c
  | ⟨7, _⟩, ⟨1, _⟩ => k0_off46 c
  | ⟨0, _⟩, ⟨2, _⟩ => k0_off10 c 1#32
  | ⟨1, _⟩, ⟨2, _⟩ => k0_off22 c 1#32
  | ⟨2, _⟩, ⟨2, _⟩ => k0_off37 c 1#32
  | ⟨3, _⟩, ⟨2, _⟩ => k0_off52 c 1#32
  | ⟨4, _⟩, ⟨2, _⟩ => k0_off15 c 1#32
  | ⟨5, _⟩, ⟨2, _⟩ => k0_off29 c 1#32
  | ⟨6, _⟩, ⟨2, _⟩ => k0_off44 c 1#32
  | ⟨7, _⟩, ⟨2, _⟩ => k0_off58 c 1#32
  | ⟨0, _⟩, ⟨3, _⟩ => k0_off10 c 2#32
  | ⟨1, _⟩, ⟨3, _⟩ => k0_off22 c 2#32
  | ⟨2, _⟩, ⟨3, _⟩ => k0_off37 c 2#32
  | ⟨3, _⟩, ⟨3, _⟩ => k0_off52 c 2#32
  | ⟨4, _⟩, ⟨3, _⟩ => k0_off15 c 2#32
  | ⟨5, _⟩, ⟨3, _⟩ => k0_off29 c 2#32
  | ⟨6, _⟩, ⟨3, _⟩ => k0_off44 c 2#32
  | ⟨7, _⟩, ⟨3, _⟩ => k0_off58 c 2#32
  | ⟨0, _⟩, ⟨4, _⟩ => k0_off10 c 3#32
  | ⟨1, _⟩, ⟨4, _⟩ => k0_off22 c 3#32
  | ⟨2, _⟩, ⟨4, _⟩ => k0_off37 c 3#32
  | ⟨3, _⟩, ⟨4, _⟩ => k0_off52 c 3#32
  | ⟨4, _⟩, ⟨4, _⟩ => k0_off15 c 3#32
  | ⟨5, _⟩, ⟨4, _⟩ => k0_off29 c 3#32
  | ⟨6, _⟩, ⟨4, _⟩ => k0_off44 c 3#32
  | ⟨7, _⟩, ⟨4, _⟩ => k0_off58 c 3#32
  | ⟨0, _⟩, ⟨5, _⟩ => k0_off20 c
  | ⟨1, _⟩, ⟨5, _⟩ => k0_off35 c
  | ⟨2, _⟩, ⟨5, _⟩ => k0_off50 c
  | ⟨3, _⟩, ⟨5, _⟩ => k0_off62 c
  | ⟨4, _⟩, ⟨5, _⟩ => k0_off27 c
  | ⟨5, _⟩, ⟨5, _⟩ => k0_off42 c
  | ⟨6, _⟩, ⟨5, _⟩ => k0_off56 c
  | ⟨7, _⟩, ⟨5, _⟩ => k0_off66 c
  | ⟨0, _⟩, ⟨6, _⟩ => k0_off20 c
  | ⟨1, _⟩, ⟨6, _⟩ => k0_off35 c
  | ⟨2, _⟩, ⟨6, _⟩ => k0_off50 c
  | ⟨3, _⟩, ⟨6, _⟩ => k0_off62 c
  | ⟨4, _⟩, ⟨6, _⟩ => k0_off27 c
  | ⟨5, _⟩, ⟨6, _⟩ => k0_off42 c
  | ⟨6, _⟩, ⟨6, _⟩ => k0_off56 c
  | ⟨7, _⟩, ⟨6, _⟩ => k0_off66 c
  | ⟨0, _⟩, ⟨7, _⟩ => k0_off20 c
  | ⟨1, _⟩, ⟨7, _⟩ => k0_off35 c
  | ⟨2, _⟩, ⟨7, _⟩ => k0_off50 c
  | ⟨3, _⟩, ⟨7, _⟩ => k0_off62 c
  | ⟨4, _⟩, ⟨7, _⟩ => k0_off27 c
  | ⟨5, _⟩, ⟨7, _⟩ => k0_off42 c
  | ⟨6, _⟩, ⟨7, _⟩ => k0_off56 c
  | ⟨7, _⟩, ⟨7, _⟩ => k0_off66 c
  | ⟨0, _⟩, ⟨8, _⟩ => k0_off33 c
  | ⟨1, _⟩, ⟨8, _⟩ => k0_off48 c
  | ⟨2, _⟩, ⟨8, _⟩ => k0_off60 c
  | ⟨3, _⟩, ⟨8, _⟩ => k0_off68 c
  | ⟨4, _⟩, ⟨8, _⟩ => k0_off40 c
  | ⟨5, _⟩, ⟨8, _⟩ => k0_off54 c
  | ⟨6, _⟩, ⟨8, _⟩ => k0_off64 c
  | ⟨7, _⟩, ⟨8, _⟩ => k0_off70 c
  | ⟨0, _⟩, ⟨9, _⟩ => k0_off47 c
  | ⟨1, _⟩, ⟨9, _⟩ => k0_off59 c
  | ⟨2, _⟩, ⟨9, _⟩ => k0_off67 c
  | ⟨3, _⟩, ⟨9, _⟩ => k0_off71 c
  | ⟨4, _⟩, ⟨9, _⟩ => k0_off53 c
  | ⟨5, _⟩, ⟨9, _⟩ => k0_off63 c
  | ⟨6, _⟩, ⟨9, _⟩ => k0_off69 c
  | ⟨7, _⟩, ⟨9, _⟩ => k0_off72 c
  | ⟨_ + 8, h⟩, _ => absurd h (by omega)
  | _, ⟨_ + 10, h⟩ => absurd h (by omega)

/-- The number of the device that transfer `s` of column unit `u` goes to from device `c`. -/
def peerNat (c : Dev nD) : Fin 8 → Fin 10 → Nat
  | ⟨0, _⟩, ⟨0, _⟩ => k0_dev6 c
  | ⟨1, _⟩, ⟨0, _⟩ => k0_dev9 c
  | ⟨2, _⟩, ⟨0, _⟩ => k0_dev16 c
  | ⟨3, _⟩, ⟨0, _⟩ => k0_dev29 c
  | ⟨4, _⟩, ⟨0, _⟩ => k0_dev7 c
  | ⟨5, _⟩, ⟨0, _⟩ => k0_dev11 c
  | ⟨6, _⟩, ⟨0, _⟩ => k0_dev21 c
  | ⟨7, _⟩, ⟨0, _⟩ => k0_dev37 c
  | ⟨0, _⟩, ⟨1, _⟩ => k0_dev8 c
  | ⟨1, _⟩, ⟨1, _⟩ => k0_dev15 c
  | ⟨2, _⟩, ⟨1, _⟩ => k0_dev28 c
  | ⟨3, _⟩, ⟨1, _⟩ => k0_dev45 c
  | ⟨4, _⟩, ⟨1, _⟩ => k0_dev10 c
  | ⟨5, _⟩, ⟨1, _⟩ => k0_dev20 c
  | ⟨6, _⟩, ⟨1, _⟩ => k0_dev36 c
  | ⟨7, _⟩, ⟨1, _⟩ => k0_dev53 c
  | ⟨0, _⟩, ⟨2, _⟩ => k0_dev12 c
  | ⟨1, _⟩, ⟨2, _⟩ => k0_dev25 c
  | ⟨2, _⟩, ⟨2, _⟩ => k0_dev42 c
  | ⟨3, _⟩, ⟨2, _⟩ => k0_dev59 c
  | ⟨4, _⟩, ⟨2, _⟩ => k0_dev17 c
  | ⟨5, _⟩, ⟨2, _⟩ => k0_dev33 c
  | ⟨6, _⟩, ⟨2, _⟩ => k0_dev50 c
  | ⟨7, _⟩, ⟨2, _⟩ => k0_dev67 c
  | ⟨0, _⟩, ⟨3, _⟩ => k0_dev13 c
  | ⟨1, _⟩, ⟨3, _⟩ => k0_dev26 c
  | ⟨2, _⟩, ⟨3, _⟩ => k0_dev43 c
  | ⟨3, _⟩, ⟨3, _⟩ => k0_dev60 c
  | ⟨4, _⟩, ⟨3, _⟩ => k0_dev18 c
  | ⟨5, _⟩, ⟨3, _⟩ => k0_dev34 c
  | ⟨6, _⟩, ⟨3, _⟩ => k0_dev51 c
  | ⟨7, _⟩, ⟨3, _⟩ => k0_dev68 c
  | ⟨0, _⟩, ⟨4, _⟩ => k0_dev14 c
  | ⟨1, _⟩, ⟨4, _⟩ => k0_dev27 c
  | ⟨2, _⟩, ⟨4, _⟩ => k0_dev44 c
  | ⟨3, _⟩, ⟨4, _⟩ => k0_dev61 c
  | ⟨4, _⟩, ⟨4, _⟩ => k0_dev19 c
  | ⟨5, _⟩, ⟨4, _⟩ => k0_dev35 c
  | ⟨6, _⟩, ⟨4, _⟩ => k0_dev52 c
  | ⟨7, _⟩, ⟨4, _⟩ => k0_dev69 c
  | ⟨0, _⟩, ⟨5, _⟩ => k0_dev22 c
  | ⟨1, _⟩, ⟨5, _⟩ => k0_dev39 c
  | ⟨2, _⟩, ⟨5, _⟩ => k0_dev56 c
  | ⟨3, _⟩, ⟨5, _⟩ => k0_dev72 c
  | ⟨4, _⟩, ⟨5, _⟩ => k0_dev30 c
  | ⟨5, _⟩, ⟨5, _⟩ => k0_dev47 c
  | ⟨6, _⟩, ⟨5, _⟩ => k0_dev64 c
  | ⟨7, _⟩, ⟨5, _⟩ => k0_dev77 c
  | ⟨0, _⟩, ⟨6, _⟩ => k0_dev23 c
  | ⟨1, _⟩, ⟨6, _⟩ => k0_dev40 c
  | ⟨2, _⟩, ⟨6, _⟩ => k0_dev57 c
  | ⟨3, _⟩, ⟨6, _⟩ => k0_dev73 c
  | ⟨4, _⟩, ⟨6, _⟩ => k0_dev31 c
  | ⟨5, _⟩, ⟨6, _⟩ => k0_dev48 c
  | ⟨6, _⟩, ⟨6, _⟩ => k0_dev65 c
  | ⟨7, _⟩, ⟨6, _⟩ => k0_dev78 c
  | ⟨0, _⟩, ⟨7, _⟩ => k0_dev24 c
  | ⟨1, _⟩, ⟨7, _⟩ => k0_dev41 c
  | ⟨2, _⟩, ⟨7, _⟩ => k0_dev58 c
  | ⟨3, _⟩, ⟨7, _⟩ => k0_dev74 c
  | ⟨4, _⟩, ⟨7, _⟩ => k0_dev32 c
  | ⟨5, _⟩, ⟨7, _⟩ => k0_dev49 c
  | ⟨6, _⟩, ⟨7, _⟩ => k0_dev66 c
  | ⟨7, _⟩, ⟨7, _⟩ => k0_dev79 c
  | ⟨0, _⟩, ⟨8, _⟩ => k0_dev38 c
  | ⟨1, _⟩, ⟨8, _⟩ => k0_dev55 c
  | ⟨2, _⟩, ⟨8, _⟩ => k0_dev71 c
  | ⟨3, _⟩, ⟨8, _⟩ => k0_dev81 c
  | ⟨4, _⟩, ⟨8, _⟩ => k0_dev46 c
  | ⟨5, _⟩, ⟨8, _⟩ => k0_dev63 c
  | ⟨6, _⟩, ⟨8, _⟩ => k0_dev76 c
  | ⟨7, _⟩, ⟨8, _⟩ => k0_dev83 c
  | ⟨0, _⟩, ⟨9, _⟩ => k0_dev54 c
  | ⟨1, _⟩, ⟨9, _⟩ => k0_dev70 c
  | ⟨2, _⟩, ⟨9, _⟩ => k0_dev80 c
  | ⟨3, _⟩, ⟨9, _⟩ => k0_dev84 c
  | ⟨4, _⟩, ⟨9, _⟩ => k0_dev62 c
  | ⟨5, _⟩, ⟨9, _⟩ => k0_dev75 c
  | ⟨6, _⟩, ⟨9, _⟩ => k0_dev82 c
  | ⟨7, _⟩, ⟨9, _⟩ => k0_dev85 c
  | ⟨_ + 8, h⟩, _ => absurd h (by omega)
  | _, ⟨_ + 10, h⟩ => absurd h (by omega)

/-- The corner of the rectangle that reduction `r` of column unit `u` rewrites on device `c`. -/
def redOff (c : Dev nD) : Fin 8 → Fin 3 → Fin 2 → Nat
  | ⟨0, _⟩, ⟨0, _⟩ => k0_off3 c
  | ⟨1, _⟩, ⟨0, _⟩ => k0_off11 c
  | ⟨2, _⟩, ⟨0, _⟩ => k0_off23 c
  | ⟨3, _⟩, ⟨0, _⟩ => k0_off38 c
  | ⟨4, _⟩, ⟨0, _⟩ => k0_off6 c
  | ⟨5, _⟩, ⟨0, _⟩ => k0_off16 c
  | ⟨6, _⟩, ⟨0, _⟩ => k0_off30 c
  | ⟨7, _⟩, ⟨0, _⟩ => k0_off45 c
  | ⟨0, _⟩, ⟨1, _⟩ => k0_off9 c
  | ⟨1, _⟩, ⟨1, _⟩ => k0_off21 c
  | ⟨2, _⟩, ⟨1, _⟩ => k0_off36 c
  | ⟨3, _⟩, ⟨1, _⟩ => k0_off51 c
  | ⟨4, _⟩, ⟨1, _⟩ => k0_off14 c
  | ⟨5, _⟩, ⟨1, _⟩ => k0_off28 c
  | ⟨6, _⟩, ⟨1, _⟩ => k0_off43 c
  | ⟨7, _⟩, ⟨1, _⟩ => k0_off57 c
  | ⟨0, _⟩, ⟨2, _⟩ => k0_off19 c
  | ⟨1, _⟩, ⟨2, _⟩ => k0_off34 c
  | ⟨2, _⟩, ⟨2, _⟩ => k0_off49 c
  | ⟨3, _⟩, ⟨2, _⟩ => k0_off61 c
  | ⟨4, _⟩, ⟨2, _⟩ => k0_off26 c
  | ⟨5, _⟩, ⟨2, _⟩ => k0_off41 c
  | ⟨6, _⟩, ⟨2, _⟩ => k0_off55 c
  | ⟨7, _⟩, ⟨2, _⟩ => k0_off65 c
  | ⟨_ + 8, h⟩, _ => absurd h (by omega)
  | _, ⟨_ + 3, h⟩ => absurd h (by omega)

/-- The device that the barrier signal number `d` goes to. -/
def sigNat (c : Dev nD) : Fin 5 → Nat
  | ⟨0, _⟩ => k0_dev1 c
  | ⟨1, _⟩ => k0_dev2 c
  | ⟨2, _⟩ => k0_dev3 c
  | ⟨3, _⟩ => k0_dev4 c
  | ⟨4, _⟩ => k0_dev5 c
  | ⟨_ + 5, h⟩ => absurd h (by omega)

/-- The number of rows that a transfer moves. -/
def rows : Fin 10 → Nat := ![512, 256, 64, 64, 64, 64, 64, 64, 256, 512]
/-- The number of rows that a reduction rewrites. -/
def rrows : Fin 3 → Nat := ![512, 256, 64]
/-- The shape that a transfer moves: some rows of one column unit. -/
abbrev shp (s : Fin 10) : Shape := ⟨2, ![rows s, 128]⟩
/-- The shape that a reduction rewrites. -/
abbrev rshp (r : Fin 3) : Shape := ⟨2, ![rrows r, 128]⟩

theorem peerNat_lt : ∀ (c : Dev nD) (u : Fin 8) (s : Fin 10), peerNat c u s < nD := by decide +kernel
theorem sigNat_lt : ∀ (c : Dev nD) (d : Fin 5), sigNat c d < nD := by decide +kernel
theorem srcOff_inb : ∀ (c : Dev nD) (u : Fin 8) (s : Fin 10), ∀ a, srcOff c u s a + (shp s).size a ≤ S1024x1024.size a := by
  decide +kernel
theorem srcOff_words : ∀ (c : Dev nD) (u : Fin 8) (s : Fin 10),
    (Rect.unit (s := S1024x1024) (srcOff c u s) (shp s).size (srcOff_inb c u s)).WholeWords (EltTy.packing .bf16) := by
  decide +kernel
theorem redOff_inb : ∀ (c : Dev nD) (u : Fin 8) (r : Fin 3), ∀ a, redOff c u r a + (rshp r).size a ≤ S1024x1024.size a := by
  decide +kernel
theorem redOff_packed : ∀ (c : Dev nD) (u : Fin 8) (r : Fin 3),
    (Rect.unit (s := S1024x1024) (redOff c u r) (rshp r).size (redOff_inb c u r)).PackedRows (EltTy.packing .bf16) := by
  decide +kernel
theorem rb0_inb : ∀ (u : Fin 8), ∀ a, (![u.val, 0, 0] : Fin 3 → Nat) a + S1x512x128.size a ≤ S8x512x128.size a := by decide
theorem rb0_words : ∀ (u : Fin 8), (Rect.unit (s := S8x512x128) ![u.val, 0, 0] S1x512x128.size (rb0_inb u)).WholeWords (EltTy.packing .bf16) := by decide
theorem rb1_inb : ∀ (u : Fin 8), ∀ a, (![u.val, 0, 0] : Fin 3 → Nat) a + S1x256x128.size a ≤ S8x256x128.size a := by decide
theorem rb1_words : ∀ (u : Fin 8), (Rect.unit (s := S8x256x128) ![u.val, 0, 0] S1x256x128.size (rb1_inb u)).WholeWords (EltTy.packing .bf16) := by decide
theorem rbz_inb : ∀ (u : Fin 8) (d : Fin 3), ∀ a, (![u.val, d.val, 0, 0] : Fin 4 → Nat) a + S1x1x64x128.size a ≤ S8x3x64x128.size a := by decide
theorem rbz_words : ∀ (u : Fin 8) (d : Fin 3), (Rect.unit (s := S8x3x64x128) ![u.val, d.val, 0, 0] S1x1x64x128.size (rbz_inb u d)).WholeWords (EltTy.packing .bf16) := by decide
theorem sem_inb : ∀ (u : Fin 8) (s : Fin 10), ∀ a, (![u.val, s.val] : Fin 2 → Nat) a + S1x1.size a ≤ S8x10.size a := by decide
theorem col_inb : ∀ (u : Fin 8), ∀ a, (![0, 128 * u.val] : Fin 2 → Nat) a + S1024x128.size a ≤ S1024x1024.size a := by decide

/-! ## The memrefs -/

abbrev xM : Memref sig .tc .vmem S1024x64 .bf16 := Memref.whole cc0_stg0_0
abbrev wM : Memref sig .tc .vmem S64x1024 .bf16 := Memref.whole cc0_stg1_0
abbrev outM : Memref sig .tc .vmem S1024x1024 .f32 := Memref.whole cc0_stg2_0
abbrev accM : Memref sig .tc .vmem S1024x1024 .bf16 := Memref.whole cc0_scratch0
abbrev rb0M : Memref sig .tc .vmem S8x512x128 .bf16 := Memref.whole cc0_scratch1
abbrev rb1M : Memref sig .tc .vmem S8x256x128 .bf16 := Memref.whole cc0_scratch2
abbrev rbzM : Memref sig .tc .vmem S8x3x64x128 .bf16 := Memref.whole cc0_scratch3

/-- The accumulator rectangle that transfer `s` of unit `u` reads. -/
def srcM (c : Dev nD) (u : Fin 8) (s : Fin 10) : Memref sig .tc .vmem (shp s) .bf16 :=
  accM.slice (Rect.unit (s := S1024x1024) (srcOff c u s) (shp s).size (srcOff_inb c u s)) (fun _ => rfl)

/-- The place, on the receiving device, where transfer `s` of unit `u` lands. -/
def dstM (c : Dev nD) (u : Fin 8) : (s : Fin 10) → Memref sig .tc .vmem (shp s) .bf16
  | ⟨0, _⟩ => (rb0M.slice (Rect.unit (s := S8x512x128) ![u.val, 0, 0] S1x512x128.size (rb0_inb u)) (fun _ => rfl)).squeeze S512x128 squeezes_S1x512x128_S512x128
  | ⟨1, _⟩ => (rb1M.slice (Rect.unit (s := S8x256x128) ![u.val, 0, 0] S1x256x128.size (rb1_inb u)) (fun _ => rfl)).squeeze S256x128 squeezes_S1x256x128_S256x128
  | ⟨2, _⟩ => (rbzM.slice (Rect.unit (s := S8x3x64x128) ![u.val, 0, 0, 0] S1x1x64x128.size (rbz_inb u 0)) (fun _ => rfl)).squeeze S64x128 squeezes_S1x1x64x128_S64x128
  | ⟨3, _⟩ => (rbzM.slice (Rect.unit (s := S8x3x64x128) ![u.val, 1, 0, 0] S1x1x64x128.size (rbz_inb u 1)) (fun _ => rfl)).squeeze S64x128 squeezes_S1x1x64x128_S64x128
  | ⟨4, _⟩ => (rbzM.slice (Rect.unit (s := S8x3x64x128) ![u.val, 2, 0, 0] S1x1x64x128.size (rbz_inb u 2)) (fun _ => rfl)).squeeze S64x128 squeezes_S1x1x64x128_S64x128
  | ⟨s + 5, h⟩ => srcM c u ⟨s + 5, h⟩

theorem srcM_words (c : Dev nD) (u : Fin 8) (s : Fin 10) : (srcM c u s).view.WordExact :=
  (Memref.isWhole_whole cc0_scratch0).wordExact_slice rfl _ (srcOff_words c u s)

theorem dstM_words (c : Dev nD) (u : Fin 8) : (s : Fin 10) → (dstM c u s).view.WordExact
  | ⟨0, _⟩ => ((Memref.isWhole_whole cc0_scratch1).wordExact_slice rfl _ (rb0_words u)).reshape _ _
  | ⟨1, _⟩ => ((Memref.isWhole_whole cc0_scratch2).wordExact_slice rfl _ (rb1_words u)).reshape _ _
  | ⟨2, _⟩ => ((Memref.isWhole_whole cc0_scratch3).wordExact_slice rfl _ (rbz_words u 0)).reshape _ _
  | ⟨3, _⟩ => ((Memref.isWhole_whole cc0_scratch3).wordExact_slice rfl _ (rbz_words u 1)).reshape _ _
  | ⟨4, _⟩ => ((Memref.isWhole_whole cc0_scratch3).wordExact_slice rfl _ (rbz_words u 2)).reshape _ _
  | ⟨s + 5, h⟩ => srcM_words c u ⟨s + 5, h⟩

end Cert.KernelIdeal.K
-- ==== Proof.KernelIdeal.Steps.lean ====
module

public import proofs.«01_k».proof.Proof.KernelIdeal.Prog
public import Idealize.ShloMosaic.Lib.Pipeline.Regions

/-! # The steps of the schedule, and the printed body as the schedule -/

@[expose] public section

set_option maxRecDepth 65536

noncomputable section

namespace Cert.KernelIdeal.K

open Idealize.ShloMosaic Idealize.SL.Sem
open Cert.KernelIdeal Cert.KernelIdeal.Gen

variable {F : FTy → Type} [FloatOps F]

/-- The kernel's commands. -/
abbrev PB (F : FTy → Type) [FloatOps F] (α : Type) := Prog (TpuEff nD τ sig (Elt F) Λ₀ .tc) α

/-- The semaphore that counts the end of transfer `s` of unit `u` at the sender. -/
abbrev sndS (u : Fin 8) (s : Fin 10) : DmaSem sig :=
  ((cc0_scratch4.slice (Rect.unit (s := S8x10) ![u.val, s.val] S1x1.size (sem_inb u s))).squeeze S_ squeezes_S1x1_S_).sem
/-- The semaphore that counts the landing of transfer `s` of unit `u` at the receiver. -/
abbrev rcvS (u : Fin 8) (s : Fin 10) : DmaSem sig :=
  ((cc0_scratch5.slice (Rect.unit (s := S8x10) ![u.val, s.val] S1x1.size (sem_inb u s))).squeeze S_ squeezes_S1x1_S_).sem
/-- The barrier semaphore. -/
abbrev barS : Sem sig := (SemArray.scalar (sig.barrier 0 rfl) : Sems sig S_).sem

/-- The device that transfer `s` of unit `u` goes to. -/
def peer (c : Dev nD) (u : Fin 8) (s : Fin 10) : Dev nD := ⟨peerNat c u s, peerNat_lt c u s⟩
/-- The device that barrier signal `d` goes to. -/
def sigDev (c : Dev nD) (d : Fin 5) : Dev nD := ⟨sigNat c d, sigNat_lt c d⟩

/-- Start transfer `s` of unit `u`. -/
def issueP (c : Dev nD) (u : Fin 8) (s : Fin 10) : PB F PUnit :=
  Prog.lift (.enqueueDma (srcM c u s) (.remote (Dev.tc (peer c u s)) (dstM c u s) (.dma (sndS u s))) (.dma (rcvS u s))
    (srcM_words c u s) (dstM_words c u s) ⟨⟨rfl, Or.inl rfl⟩, trivial⟩)
/-- Wait until transfer `s` of unit `u` has left this device. -/
def sndWaitP (c : Dev nD) (u : Fin 8) (s : Fin 10) : PB F PUnit :=
  Prog.lift (.waitDma2 (sndS u s) (dstM c u s) (srcM c u s) (dstM_words c u s) (srcM_words c u s))
/-- Wait until transfer `s` of unit `u` has landed on this device. -/
def rcvWaitP (c : Dev nD) (u : Fin 8) (s : Fin 10) : PB F PUnit :=
  Prog.lift (.waitDma2 (rcvS u s) (srcM c u s) (dstM c u s) (srcM_words c u s) (dstM_words c u s))
/-- Both waits of transfer `s` of unit `u`. -/
def waitsP (c : Dev nD) (u : Fin 8) (s : Fin 10) : PB F PUnit := sndWaitP c u s >>= fun _ => rcvWaitP c u s

/-- The rectangle of reduction `r`. -/
abbrev redR (c : Dev nD) (u : Fin 8) (r : Fin 3) : Rect S1024x1024 := Rect.unit (s := S1024x1024) (redOff c u r) (rshp r).size (redOff_inb c u r)

/-- Add what came from the first partner. -/
def red0P (c : Dev nD) (u : Fin 8) : PB F PUnit := do
  let a : Vec F S512x128 .bf16 ← Prog.lift (.load accM (Rect.unit (s := S1024x1024) (redOff c u 0) S512x128.size (redOff_inb c u 0)).toLoadRect (View.loadsAt_vmem h_S512x128))
  let b : Vec F S1x512x128 .bf16 ← Prog.lift (.load rb0M (Rect.unit (s := S8x512x128) ![u.val, 0, 0] S1x512x128.size (rb0_inb u)).toLoadRect (View.loadsAt_vmem h_S1x512x128))
  let _ : Vec F S512x128 .bf16 ← Prog.lift (.load accM (Rect.unit (s := S1024x1024) (redOff c u 0) S512x128.size (redOff_inb c u 0)).toLoadRect (View.loadsAt_vmem h_S512x128))
  Prog.lift (.store accM (Rect.unit (s := S1024x1024) (redOff c u 0) S512x128.size (redOff_inb c u 0)) (k0_pay3 a b) Finset.univ (View.stores_vmem h_S512x128 ((Memref.isWhole_whole cc0_scratch0).storeExact_slice rfl _ (redOff_packed c u 0)) (fun _ => rfl)) (.inl rfl))

/-- Add what came from the second partner. -/
def red1P (c : Dev nD) (u : Fin 8) : PB F PUnit := do
  let a : Vec F S256x128 .bf16 ← Prog.lift (.load accM (Rect.unit (s := S1024x1024) (redOff c u 1) S256x128.size (redOff_inb c u 1)).toLoadRect (View.loadsAt_vmem h_S256x128))
  let b : Vec F S1x256x128 .bf16 ← Prog.lift (.load rb1M (Rect.unit (s := S8x256x128) ![u.val, 0, 0] S1x256x128.size (rb1_inb u)).toLoadRect (View.loadsAt_vmem h_S1x256x128))
  let _ : Vec F S256x128 .bf16 ← Prog.lift (.load accM (Rect.unit (s := S1024x1024) (redOff c u 1) S256x128.size (redOff_inb c u 1)).toLoadRect (View.loadsAt_vmem h_S256x128))
  Prog.lift (.store accM (Rect.unit (s := S1024x1024) (redOff c u 1) S256x128.size (redOff_inb c u 1)) (k0_pay5 a b) Finset.univ (View.stores_vmem h_S256x128 ((Memref.isWhole_whole cc0_scratch0).storeExact_slice rfl _ (redOff_packed c u 1)) (fun _ => rfl)) (.inl rfl))

/-- Add what came from the three devices of the ring, one after the other. -/
def red2P (c : Dev nD) (u : Fin 8) : PB F PUnit := do
  let a : Vec F S64x128 .bf16 ← Prog.lift (.load accM (Rect.unit (s := S1024x1024) (redOff c u 2) S64x128.size (redOff_inb c u 2)).toLoadRect (View.loadsAt_vmem h_S64x128))
  let b : Vec F S1x1x64x128 .bf16 ← Prog.lift (.load rbzM (Rect.unit (s := S8x3x64x128) ![u.val, 0, 0, 0] S1x1x64x128.size (rbz_inb u 0)).toLoadRect (View.loadsAt_vmem h_S1x1x64x128))
  let b' : Vec F S1x1x64x128 .bf16 ← Prog.lift (.load rbzM (Rect.unit (s := S8x3x64x128) ![u.val, 1, 0, 0] S1x1x64x128.size (rbz_inb u 1)).toLoadRect (View.loadsAt_vmem h_S1x1x64x128))
  let b'' : Vec F S1x1x64x128 .bf16 ← Prog.lift (.load rbzM (Rect.unit (s := S8x3x64x128) ![u.val, 2, 0, 0] S1x1x64x128.size (rbz_inb u 2)).toLoadRect (View.loadsAt_vmem h_S1x1x64x128))
  let _ : Vec F S64x128 .bf16 ← Prog.lift (.load accM (Rect.unit (s := S1024x1024) (redOff c u 2) S64x128.size (redOff_inb c u 2)).toLoadRect (View.loadsAt_vmem h_S64x128))
  Prog.lift (.store accM (Rect.unit (s := S1024x1024) (redOff c u 2) S64x128.size (redOff_inb c u 2))
    (shapeCast S64x128 (addf (addf (addf a (shapeCast S64x128 b shapeCasts_S1x1x64x128_S64x128)) (shapeCast S64x128 b' shapeCasts_S1x1x64x128_S64x128)) (shapeCast S64x128 b'' shapeCasts_S1x1x64x128_S64x128) : FVec F S64x128 .bf16) shapeCasts_S64x128_S64x128)
    Finset.univ (View.stores_vmem h_S64x128 ((Memref.isWhole_whole cc0_scratch0).storeExact_slice rfl _ (redOff_packed c u 2)) (fun _ => rfl)) (.inl rfl))

/-- Widen the unit's columns of the accumulator into the result. -/
def outP (u : Fin 8) : PB F PUnit := do
  let a : Vec F S1024x128 .bf16 ← Prog.lift (.load accM (Rect.unit (s := S1024x1024) ![0, 128 * u.val] S1024x128.size (col_inb u)).toLoadRect (View.loadsAt_vmem h_S1024x128))
  let _ : Vec F S1024x128 .f32 ← Prog.lift (.load outM (Rect.unit (s := S1024x1024) ![0, 128 * u.val] S1024x128.size (col_inb u)).toLoadRect (View.loadsAt_vmem h_S1024x128))
  Prog.lift (.store outM (Rect.unit (s := S1024x1024) ![0, 128 * u.val] S1024x128.size (col_inb u)) (k0_pay1 a) Finset.univ (View.stores_vmem_bits_univ h_S1024x128 rfl) (.inl rfl))

/-- A unit's own course: what it does at its position `k`. -/
def stepP (c : Dev nD) (u : Fin 8) : Fin 7 → PB F PUnit
  | ⟨0, _⟩ => issueP c u 0
  | ⟨1, _⟩ => waitsP c u 0 >>= fun _ => red0P c u >>= fun _ => issueP c u 1
  | ⟨2, _⟩ => waitsP c u 1 >>= fun _ => red1P c u >>= fun _ => issueP c u 2 >>= fun _ => issueP c u 3 >>= fun _ => issueP c u 4
  | ⟨3, _⟩ => waitsP c u 2 >>= fun _ => waitsP c u 3 >>= fun _ => waitsP c u 4 >>= fun _ => red2P c u >>= fun _ =>
      issueP c u 5 >>= fun _ => issueP c u 6 >>= fun _ => issueP c u 7
  | ⟨4, _⟩ => waitsP c u 5 >>= fun _ => waitsP c u 6 >>= fun _ => waitsP c u 7 >>= fun _ => issueP c u 8
  | ⟨5, _⟩ => waitsP c u 8 >>= fun _ => issueP c u 9
  | ⟨6, _⟩ => waitsP c u 9 >>= fun _ => outP u
  | ⟨_ + 7, h⟩ => absurd h (by omega)

/-- The steps in a list, one after the other. -/
def runs (c : Dev nD) : List (Fin 8 × Fin 7) → PB F PUnit
  | [] => pure ⟨⟩
  | (u, k) :: l => stepP c u k >>= fun _ => runs c l

/-- The order of the steps: position `k` of unit `u` is taken at time `k + u % 4`. -/
def sched : List (Fin 8 × Fin 7) :=
  [(0, 0), (4, 0),
   (0, 1), (1, 0), (4, 1), (5, 0),
   (0, 2), (1, 1), (2, 0), (4, 2), (5, 1), (6, 0),
   (0, 3), (1, 2), (2, 1), (3, 0), (4, 3), (5, 2), (6, 1), (7, 0),
   (0, 4), (1, 3), (2, 2), (3, 1), (4, 4), (5, 3), (6, 2), (7, 1),
   (0, 5), (1, 4), (2, 3), (3, 2), (4, 5), (5, 4), (6, 3), (7, 2),
   (0, 6), (1, 5), (2, 4), (3, 3), (4, 6), (5, 5), (6, 4), (7, 3),
   (1, 6), (2, 5), (3, 4), (5, 6), (6, 5), (7, 4),
   (2, 6), (3, 5), (6, 6), (7, 5),
   (3, 6), (7, 6)]

/-- The barrier handshake: a signal to each of the five devices that this one talks to, and the wait for theirs. -/
def barP (c : Dev nD) : PB F PUnit :=
  semSignalWord (sigDev c 0) barS 1#32 >>= fun _ => semSignalWord (sigDev c 1) barS 1#32 >>= fun _ =>
  semSignalWord (sigDev c 2) barS 1#32 >>= fun _ => semSignalWord (sigDev c 3) barS 1#32 >>= fun _ =>
  semSignalWord (sigDev c 4) barS 1#32 >>= fun _ => semWaitWord barS 5#32

/-- The local product, into the accumulator. -/
def dotP : PB F PUnit := do
  let x : Vec F S1024x64 .bf16 ← Prog.lift (.load xM (Rect.unit (s := S1024x64) ![0, 0] S1024x64.size inb_S1024x64_S1024x64_0_0).toLoadRect (View.loadsAt_vmem h_S1024x64))
  let w : Vec F S64x1024 .bf16 ← Prog.lift (.load wM (Rect.unit (s := S64x1024) ![0, 0] S64x1024.size inb_S64x1024_S64x1024_0_0).toLoadRect (View.loadsAt_vmem h_S64x1024))
  let _ : Vec F S1024x1024 .bf16 ← Prog.lift (.load accM (Rect.unit (s := S1024x1024) ![0, 0] S1024x1024.size inb_S1024x1024_S1024x1024_0_0).toLoadRect (View.loadsAt_vmem h_S1024x1024))
  Prog.lift (.store accM (Rect.unit (s := S1024x1024) ![0, 0] S1024x1024.size inb_S1024x1024_S1024x1024_0_0) (k0_pay2 x w) Finset.univ (View.stores_vmem h_S1024x1024 ((Memref.isWhole_whole cc0_scratch0).storeExact_slice rfl _ packedbf16_S1024x1024_S1024x1024_0_0) (fun _ => rfl)) (.inl rfl))

/-- The whole body. -/
def bodyP : PB F PUnit :=
  Prog.lift .deviceId >>= fun c : Dev nD => barP c >>= fun _ => dotP >>= fun _ => runs c sched

/-- The printed body is the schedule. -/
theorem body_eq : cc0_body (F := F) xM (Memref.isWhole_whole _) wM (Memref.isWhole_whole _) outM (Memref.isWhole_whole _)
    accM (Memref.isWhole_whole _) rb0M (Memref.isWhole_whole _) rb1M (Memref.isWhole_whole _) rbzM (Memref.isWhole_whole _)
    cc0_scratch4 cc0_scratch5 = bodyP := by
  chain_rfl

end Cert.KernelIdeal.K
-- ==== Proof.KernelIdeal.Geom.lean ====
module

public import proofs.«01_k».proof.Proof.KernelIdeal.Steps

/-! # Where the transfers read and land, and who talks to whom

Everything here is read off the printed offset and device tables by evaluation: the partners are each other's
partners, and the rectangles of a column unit split, join and meet as the schedule needs. Rows count in blocks of 64. -/

@[expose] public section

set_option maxRecDepth 65536
set_option Elab.async false

noncomputable section

namespace Cert.KernelIdeal.K

open Idealize.ShloMosaic Idealize.SL.Sem
open Cert.KernelIdeal Cert.KernelIdeal.Gen

/-! ## Partners -/

/-- The transfer that goes the opposite way round. -/
def rev : Fin 10 → Fin 10 := ![0, 1, 4, 3, 2, 7, 6, 5, 8, 9]

/-- The device whose transfer `s` of unit `u` lands on `c`. -/
def frm (c : Dev nD) (u : Fin 8) (s : Fin 10) : Dev nD := peer c u (rev s)

theorem peer_frm : ∀ (c : Dev nD) (u : Fin 8) (s : Fin 10), peer (frm c u s) u s = c := by decide +kernel
theorem frm_peer : ∀ (c : Dev nD) (u : Fin 8) (s : Fin 10), frm (peer c u s) u s = c := by decide +kernel

/-- Sending along transfer `s` of unit `u` permutes the devices. -/
def peerEquiv (u : Fin 8) (s : Fin 10) : Dev nD ≃ Dev nD :=
  ⟨fun c => peer c u s, fun c => frm c u s, fun c => frm_peer c u s, fun c => peer_frm c u s⟩

theorem peer_8 : ∀ (c : Dev nD) (u : Fin 8), peer c u 8 = peer c u 1 := by decide +kernel
theorem peer_9 : ∀ (c : Dev nD) (u : Fin 8), peer c u 9 = peer c u 0 := by decide +kernel
theorem frm_0 : ∀ (c : Dev nD) (u : Fin 8), frm c u 0 = peer c u 0 := by decide +kernel
theorem frm_1 : ∀ (c : Dev nD) (u : Fin 8), frm c u 1 = peer c u 1 := by decide +kernel
theorem frm_2 : ∀ (c : Dev nD) (u : Fin 8), frm c u 2 = peer c u 7 := by decide +kernel
theorem frm_3 : ∀ (c : Dev nD) (u : Fin 8), frm c u 3 = peer c u 6 := by decide +kernel
theorem frm_4 : ∀ (c : Dev nD) (u : Fin 8), frm c u 4 = peer c u 5 := by decide +kernel

/-! ### The barrier's signals -/

/-- The signal that comes back from the device that signal `d` goes to. -/
def sigRev : Fin 5 → Fin 5 := ![0, 1, 4, 3, 2]
/-- The device whose barrier signal `d` comes to `c`. -/
def sigFrm (c : Dev nD) (d : Fin 5) : Dev nD := sigDev c (sigRev d)
theorem sigDev_sigFrm : ∀ (c : Dev nD) (d : Fin 5), sigDev (sigFrm c d) d = c := by decide +kernel
theorem sigFrm_sigDev : ∀ (c : Dev nD) (d : Fin 5), sigFrm (sigDev c d) d = c := by decide +kernel
def sigEquiv (d : Fin 5) : Dev nD ≃ Dev nD :=
  ⟨fun c => sigDev c d, fun c => sigFrm c d, fun c => sigFrm_sigDev c d, fun c => sigDev_sigFrm c d⟩

/-- Of the transfers that land in a receive buffer (`s < 5`): the signal by which a device tells the sender that it is there. -/
def dirOf (u : Fin 8) (s : Fin 5) : Fin 5 := if u.val < 4 then ![0, 1, 4, 3, 2] s else ![1, 0, 4, 3, 2] s
/-- The transfer's slot among all ten. -/
abbrev lift5 (s : Fin 5) : Fin 10 := ⟨s.val, by omega⟩
theorem sigDev_dirOf : ∀ (c : Dev nD) (u : Fin 8) (s : Fin 5), sigDev c (dirOf u s) = frm c u (lift5 s) := by decide +kernel
theorem sigFrm_dirOf : ∀ (c : Dev nD) (u : Fin 8) (s : Fin 5), sigFrm c (dirOf u s) = peer c u (lift5 s) := by decide +kernel

/-! ## Rows -/

/-- Whether transfer `s` of unit `u` on device `c` reads the `k`-th block of 64 rows. -/
def rowsOf (c : Dev nD) (u : Fin 8) (s : Fin 10) (k : ℕ) : Bool :=
  decide (srcOff c u s 0 / 64 ≤ k) && decide (k < srcOff c u s 0 / 64 + rows s / 64)

theorem srcOff_col : ∀ (c : Dev nD) (u : Fin 8) (s : Fin 10), srcOff c u s 1 = 128 * u.val := by decide +kernel
theorem srcOff_row : ∀ (c : Dev nD) (u : Fin 8) (s : Fin 10), srcOff c u s 0 % 64 = 0 := by decide +kernel
theorem rows_mod : ∀ s : Fin 10, rows s % 64 = 0 := by decide

theorem rows_full : ∀ (c : Dev nD) (u : Fin 8) (k : Fin 16), (rowsOf c u 9 k || rowsOf c u 0 k) = true := by decide +kernel
theorem rows_full_disj : ∀ (c : Dev nD) (u : Fin 8) (k : Fin 16), (rowsOf c u 9 k && rowsOf c u 0 k) = false := by decide +kernel
theorem rows_9 : ∀ (c : Dev nD) (u : Fin 8) (k : Fin 16), rowsOf c u 9 k = (rowsOf c u 8 k || rowsOf c u 1 k) := by decide +kernel
theorem rows_9_disj : ∀ (c : Dev nD) (u : Fin 8) (k : Fin 16), (rowsOf c u 8 k && rowsOf c u 1 k) = false := by decide +kernel
theorem rows_8 : ∀ (c : Dev nD) (u : Fin 8) (k : Fin 16),
    rowsOf c u 8 k = (rowsOf c u 5 k || (rowsOf c u 2 k || (rowsOf c u 3 k || rowsOf c u 4 k))) := by decide +kernel
theorem rows_8_disj : ∀ (c : Dev nD) (u : Fin 8) (k : Fin 16),
    ((rowsOf c u 5 k && (rowsOf c u 2 k || (rowsOf c u 3 k || rowsOf c u 4 k)))
      || ((rowsOf c u 2 k && (rowsOf c u 3 k || rowsOf c u 4 k)) || (rowsOf c u 3 k && rowsOf c u 4 k))) = false := by decide +kernel
theorem rows_567 : ∀ (c : Dev nD) (u : Fin 8) (k : Fin 16), rowsOf c u 6 k = rowsOf c u 5 k ∧ rowsOf c u 7 k = rowsOf c u 5 k := by decide +kernel

/-- What a device sends away by the halving transfers is what the partner keeps, and back. -/
theorem rows_peer : ∀ (c : Dev nD) (u : Fin 8) (k : Fin 16),
    rowsOf (peer c u 0) u 0 k = rowsOf c u 9 k ∧ rowsOf (peer c u 1) u 1 k = rowsOf c u 8 k
    ∧ rowsOf (peer c u 1) u 8 k = rowsOf c u 1 k ∧ rowsOf (peer c u 0) u 9 k = rowsOf c u 0 k := by decide +kernel
theorem rows_frm : ∀ (c : Dev nD) (u : Fin 8) (k : Fin 16),
    rowsOf (frm c u 2) u 2 k = rowsOf c u 5 k ∧ rowsOf (frm c u 3) u 3 k = rowsOf c u 5 k ∧ rowsOf (frm c u 4) u 4 k = rowsOf c u 5 k
    ∧ rowsOf (frm c u 5) u 5 k = rowsOf c u 4 k ∧ rowsOf (frm c u 6) u 6 k = rowsOf c u 3 k ∧ rowsOf (frm c u 7) u 7 k = rowsOf c u 2 k := by
  decide +kernel

/-- The reductions rewrite what the later transfers read. -/
theorem redOff_eq : ∀ (c : Dev nD) (u : Fin 8) (r : Fin 3) (a : Fin 2), redOff c u r a = srcOff c u (![9, 8, 5] r) a := by decide +kernel
/-- They add what the partner sent from the same place of its accumulator. -/
theorem redOff_src : ∀ (c : Dev nD) (u : Fin 8) (a : Fin 2),
    redOff c u 0 a = srcOff (frm c u 0) u 0 a ∧ redOff c u 1 a = srcOff (frm c u 1) u 1 a
    ∧ redOff c u 2 a = srcOff (frm c u 2) u 2 a ∧ redOff c u 2 a = srcOff (frm c u 3) u 3 a ∧ redOff c u 2 a = srcOff (frm c u 4) u 4 a := by
  decide +kernel

/-- The device that finishes the `k`-th block of 64 rows of unit `u`. -/
def ownD (u : Fin 8) (k : ℕ) : Dev nD :=
  ⟨k % 4 * 4 + ((if u.val < 4 then k / 4 % 2 else k / 8 % 2) * 2 + (k / 8 + k / 4) % 2), by
    show _ < 16; split <;> omega⟩
theorem ownD_eq : ∀ (c : Dev nD) (u : Fin 8) (k : Fin 16), rowsOf c u 5 k = true → ownD u k = c := by decide +kernel

/-! ## The same as sets of indices -/

/-- The accumulator's elements that transfer `s` of unit `u` reads. -/
def reg (c : Dev nD) (u : Fin 8) (s : Fin 10) : Finset S1024x1024.Idx :=
  Finset.univ.filter fun i => (i 1).val / 128 = u.val ∧ rowsOf c u s ((i 0).val / 64) = true
/-- The elements of a column unit. -/
def cols (u : Fin 8) : Finset S1024x1024.Idx := Finset.univ.filter fun i => (i 1).val / 128 = u.val

theorem mem_reg {c : Dev nD} {u : Fin 8} {s : Fin 10} {i : S1024x1024.Idx} :
    i ∈ reg c u s ↔ (i 1).val / 128 = u.val ∧ rowsOf c u s ((i 0).val / 64) = true := by simp [reg]
theorem mem_cols {u : Fin 8} {i : S1024x1024.Idx} : i ∈ cols u ↔ (i 1).val / 128 = u.val := by simp [cols]

/-- The block of 64 rows that an index lies in. -/
abbrev blk (i : S1024x1024.Idx) : Fin 16 := ⟨(i 0).val / 64, by have : (i 0).val < 1024 := (i 0).isLt; omega⟩

theorem reg_congr {c c' : Dev nD} {u : Fin 8} {s s' : Fin 10} (h : ∀ k : Fin 16, rowsOf c u s k = rowsOf c' u s' k) : reg c u s = reg c' u s' := by
  ext i; rw [mem_reg, mem_reg]; exact and_congr_right fun _ => by rw [show (i 0).val / 64 = (blk i).val from rfl, h]

theorem cols_eq (c : Dev nD) (u : Fin 8) : cols u = reg c u 9 ∪ reg c u 0 := by
  ext i; rw [Finset.mem_union, mem_cols, mem_reg, mem_reg, ← and_or_left]
  have := rows_full c u (blk i); simp only [Bool.or_eq_true] at this
  exact ⟨fun h => ⟨h, this⟩, fun h => h.1⟩
theorem reg_disj {c : Dev nD} {u : Fin 8} {s s' : Fin 10} (h : ∀ k : Fin 16, (rowsOf c u s k && rowsOf c u s' k) = false) : Disjoint (reg c u s) (reg c u s') := by
  rw [Finset.disjoint_left]; intro i hi hi'
  rw [mem_reg] at hi hi'
  have := h (blk i); rw [hi.2, hi'.2] at this; exact Bool.noConfusion this
theorem cols_disj (c : Dev nD) (u : Fin 8) : Disjoint (reg c u 9) (reg c u 0) := reg_disj (rows_full_disj c u)
theorem reg_9 (c : Dev nD) (u : Fin 8) : reg c u 9 = reg c u 8 ∪ reg c u 1 := by
  ext i; rw [Finset.mem_union, mem_reg, mem_reg, mem_reg, ← and_or_left]
  have := rows_9 c u (blk i); rw [this, Bool.or_eq_true]
theorem reg_9_disj (c : Dev nD) (u : Fin 8) : Disjoint (reg c u 8) (reg c u 1) := reg_disj (rows_9_disj c u)
theorem reg_8 (c : Dev nD) (u : Fin 8) : reg c u 8 = reg c u 5 ∪ (reg c u 2 ∪ (reg c u 3 ∪ reg c u 4)) := by
  ext i; simp only [Finset.mem_union, mem_reg, ← and_or_left]
  have := rows_8 c u (blk i); rw [this]; simp only [Bool.or_eq_true]
theorem reg_34_disj (c : Dev nD) (u : Fin 8) : Disjoint (reg c u 3) (reg c u 4) := reg_disj fun k => by
  have := rows_8_disj c u k; revert this
  cases rowsOf c u 5 k <;> cases rowsOf c u 2 k <;> cases rowsOf c u 3 k <;> cases rowsOf c u 4 k <;> simp
theorem reg_2_disj (c : Dev nD) (u : Fin 8) : Disjoint (reg c u 2) (reg c u 3 ∪ reg c u 4) := by
  rw [Finset.disjoint_union_right]
  constructor <;> refine reg_disj fun k => ?_ <;> have := rows_8_disj c u k <;> revert this <;>
  cases rowsOf c u 5 k <;> cases rowsOf c u 2 k <;> cases rowsOf c u 3 k <;> cases rowsOf c u 4 k <;> simp
theorem reg_5_disj (c : Dev nD) (u : Fin 8) : Disjoint (reg c u 5) (reg c u 2 ∪ (reg c u 3 ∪ reg c u 4)) := by
  rw [Finset.disjoint_union_right, Finset.disjoint_union_right]
  refine ⟨?_, ?_, ?_⟩ <;> refine reg_disj fun k => ?_ <;> have := rows_8_disj c u k <;> revert this <;>
  cases rowsOf c u 5 k <;> cases rowsOf c u 2 k <;> cases rowsOf c u 3 k <;> cases rowsOf c u 4 k <;> simp
theorem reg_6 (c : Dev nD) (u : Fin 8) : reg c u 6 = reg c u 5 := reg_congr fun k => (rows_567 c u k).1
theorem reg_7 (c : Dev nD) (u : Fin 8) : reg c u 7 = reg c u 5 := reg_congr fun k => (rows_567 c u k).2
theorem reg_peer_0 (c : Dev nD) (u : Fin 8) : reg (peer c u 0) u 0 = reg c u 9 := reg_congr fun k => (rows_peer c u k).1
theorem reg_peer_1 (c : Dev nD) (u : Fin 8) : reg (peer c u 1) u 1 = reg c u 8 := reg_congr fun k => (rows_peer c u k).2.1
theorem reg_peer_8 (c : Dev nD) (u : Fin 8) : reg (peer c u 1) u 8 = reg c u 1 := reg_congr fun k => (rows_peer c u k).2.2.1
theorem reg_peer_9 (c : Dev nD) (u : Fin 8) : reg (peer c u 0) u 9 = reg c u 0 := reg_congr fun k => (rows_peer c u k).2.2.2
theorem reg_frm_2 (c : Dev nD) (u : Fin 8) : reg (frm c u 2) u 2 = reg c u 5 := reg_congr fun k => (rows_frm c u k).1
theorem reg_frm_3 (c : Dev nD) (u : Fin 8) : reg (frm c u 3) u 3 = reg c u 5 := reg_congr fun k => (rows_frm c u k).2.1
theorem reg_frm_4 (c : Dev nD) (u : Fin 8) : reg (frm c u 4) u 4 = reg c u 5 := reg_congr fun k => (rows_frm c u k).2.2.1
theorem reg_frm_5 (c : Dev nD) (u : Fin 8) : reg (frm c u 5) u 5 = reg c u 4 := reg_congr fun k => (rows_frm c u k).2.2.2.1
theorem reg_frm_6 (c : Dev nD) (u : Fin 8) : reg (frm c u 6) u 6 = reg c u 3 := reg_congr fun k => (rows_frm c u k).2.2.2.2.1
theorem reg_frm_7 (c : Dev nD) (u : Fin 8) : reg (frm c u 7) u 7 = reg c u 2 := reg_congr fun k => (rows_frm c u k).2.2.2.2.2

/-! ## The views' elements -/

/-- A rectangle of the accumulator (or of the result) as a set. -/
theorem rect_mem {off size : Fin 2 → ℕ} {inb} {i : S1024x1024.Idx} :
    i ∈ (Rect.unit (s := S1024x1024) off size inb).set ↔ (off 0 ≤ (i 0).val ∧ (i 0).val < off 0 + size 0) ∧ (off 1 ≤ (i 1).val ∧ (i 1).val < off 1 + size 1) := by
  rw [Rect.mem_set_unit]
  exact Fin.forall_fin_two

theorem srcRect_set (c : Dev nD) (u : Fin 8) (s : Fin 10) :
    (Rect.unit (s := S1024x1024) (srcOff c u s) (shp s).size (srcOff_inb c u s)).set = reg c u s := by
  ext i
  rw [rect_mem, mem_reg]
  have h1 := srcOff_col c u s
  have h2 := srcOff_row c u s
  have h3 := rows_mod s
  have e0 : (shp s).size 0 = rows s := rfl
  have e1 : (shp s).size 1 = 128 := rfl
  rw [e0, e1, h1]
  unfold rowsOf
  rw [Bool.and_eq_true, decide_eq_true_iff, decide_eq_true_iff]
  generalize srcOff c u s 0 = o at *
  generalize rows s = n at *
  generalize (i 0).val = a
  generalize (i 1).val = b
  constructor
  · rintro ⟨⟨_, _⟩, _, _⟩; refine ⟨by omega, by omega, by omega⟩
  · rintro ⟨_, _, _⟩; refine ⟨⟨by omega, by omega⟩, by omega, by omega⟩

theorem colRect_set (u : Fin 8) : (Rect.unit (s := S1024x1024) ![0, 128 * u.val] S1024x128.size (col_inb u)).set = cols u := by
  ext i
  rw [rect_mem, mem_cols]
  show (0 ≤ (i 0).val ∧ (i 0).val < 0 + 1024) ∧ (128 * u.val ≤ (i 1).val ∧ (i 1).val < 128 * u.val + 128) ↔ _
  have : (i 0).val < 1024 := (i 0).isLt
  generalize (i 0).val = a at *
  generalize (i 1).val = b
  constructor
  · rintro ⟨⟨_, _⟩, _, _⟩; omega
  · intro _; refine ⟨⟨by omega, by omega⟩, by omega, by omega⟩

theorem slice_whole_set {b : Ref sig .tc} (r : Rect b.ty.shape) : ((View.whole b).slice r).set = r.set := by
  rw [View.set_slice]; exact Finset.map_refl

theorem srcM_set (c : Dev nD) (u : Fin 8) (s : Fin 10) : (srcM c u s).view.set = reg c u s :=
  (slice_whole_set (b := cc0_scratch0) _).trans (srcRect_set c u s)

end Cert.KernelIdeal.K
-- ==== Proof.KernelIdeal.Proto.lean ====
module

public import proofs.«01_k».proof.Proof.KernelIdeal.Geom
public import Idealize.ShloMosaic.Lib.Pipeline.Launch
public import Idealize.ShloMosaic.Lib.Pipeline.Kit
public import Idealize.ShloMosaic.Lib.Tactic

/-! # The protocol

Every device has 161 cells: the barrier, and for each of the eight column units and ten transfers a send cell and a
receive cell. Each goes through one round.

* The barrier cell of `b` has five duties, one for each device that signals it. The device that signals hands over those of
  its receive buffers that `b` will write.
* The receive cell of a transfer into a receive buffer (`s < 5`) hands over the buffer with what has landed, and with it the
  rows of the SENDER's accumulator that were read: the receiver needs them later to send the result back.
* The receive cell of a transfer into the accumulator hands over the rows that were written, holding the final values.
* The send cell of such a transfer hands the share of the rows that were read back to the sender. -/

@[expose] public section

set_option maxRecDepth 65536

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev D : Type := Fin 5
abbrev UB : Type := URounds (GSem nD τ sig) D
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- A device's cells: the barrier, and the send (`false`) and receive (`true`) cells of the transfers. -/
abbrev Cell : Type := Option (Bool × Fin 8 × Fin 10)
abbrev csem : Cell → SemLoc sig
  | none => .reg barS
  | some (false, u, s) => .dma (sndS u s)
  | some (true, u, s) => .dma (rcvS u s)
/-- The cell of a device. -/
abbrev kcell (ck : Dev nD × Cell) : GSem nD τ sig := ((ck.1 : Thread nD τ), csem ck.2)
abbrev barC (c : Dev nD) : GSem nD τ sig := ((c : Thread nD τ), .reg barS)
abbrev sndC (c : Dev nD) (u : Fin 8) (s : Fin 10) : GSem nD τ sig := ((c : Thread nD τ), .dma (sndS u s))
abbrev rcvC (c : Dev nD) (u : Fin 8) (s : Fin 10) : GSem nD τ sig := ((c : Thread nD τ), .dma (rcvS u s))

/-- The cell that the `n`-th DMA semaphore is. -/
def dmaKind (n : ℕ) : Option Cell :=
  if h : 3 ≤ n ∧ n < 83 then some (some (false, ⟨(n - 3) / 10, by omega⟩, ⟨(n - 3) % 10, by omega⟩))
  else if h : 83 ≤ n ∧ n < 163 then some (some (true, ⟨(n - 83) / 10, by omega⟩, ⟨(n - 83) % 10, by omega⟩))
  else none
/-- The cell that a semaphore is, if it is one of the protocol's. -/
def kindOf : SemLoc sig → Option Cell
  | .reg r => if r = barS then some none else none
  | .dma i => dmaKind i.val

theorem kind_bar : kindOf (.reg barS) = some none := rfl
theorem kind_snd : ∀ (u : Fin 8) (s : Fin 10), kindOf (.dma (sndS u s)) = some (some (false, u, s)) := by decide +kernel
theorem kind_rcv : ∀ (u : Fin 8) (s : Fin 10), kindOf (.dma (rcvS u s)) = some (some (true, u, s)) := by decide +kernel
theorem kind_csem : ∀ k : Cell, kindOf (csem k) = some k
  | none => rfl
  | some (false, u, s) => kind_snd u s
  | some (true, u, s) => kind_rcv u s
theorem csem_injective : Function.Injective csem := fun a b h => Option.some.inj (by rw [← kind_csem a, h, kind_csem b])
theorem kcell_injective : Function.Injective kcell := by
  rintro ⟨c, k⟩ ⟨c', k'⟩ h
  have h1 : (c : Thread nD τ) = (c' : Thread nD τ) := congrArg (·.1) h
  have h2 : csem k = csem k' := congrArg (·.2) h
  have h3 : c = c' := congrArg (·.1) h1
  rw [h3, csem_injective h2]

/-! ## Amounts -/

/-- What transfer `s` of any unit counts. -/
def N (s : Fin 10) : ℕ := (srcM 0 0 s).view.dmaCredit
theorem N_pos (s : Fin 10) : 0 < N s := by
  refine View.dmaCredit_pos _ ?_
  revert s; decide
theorem src_credit (c : Dev nD) (u : Fin 8) (s : Fin 10) : (srcM c u s).view.dmaCredit = N s := rfl
theorem dst_credit (c : Dev nD) (u : Fin 8) : ∀ s : Fin 10, (dstM c u s).view.dmaCredit = N s
  | ⟨0, _⟩ => rfl | ⟨1, _⟩ => rfl | ⟨2, _⟩ => rfl | ⟨3, _⟩ => rfl | ⟨4, _⟩ => rfl
  | ⟨5, _⟩ => rfl | ⟨6, _⟩ => rfl | ⟨7, _⟩ => rfl | ⟨8, _⟩ => rfl | ⟨9, _⟩ => rfl
  | ⟨_ + 10, h⟩ => absurd h (by omega)

/-! ## Contents -/

/-- The contents of an accumulator. -/
abbrev Acc (F : FTy → Type) [FloatOps F] : Type := FVec F S1024x1024 .bf16

section Values
variable (V0 : Dev nD → Acc F)

/-- A unit's columns after the first, the second and the third reduction. -/
def V1 (c : Dev nD) (u : Fin 8) : Acc F := addf (V0 c) (V0 (frm c u 0))
def V2 (c : Dev nD) (u : Fin 8) : Acc F := addf (V1 V0 c u) (V1 V0 (frm c u 1) u)
def V3 (c : Dev nD) (u : Fin 8) : Acc F :=
  addf (addf (addf (V2 V0 c u) (V2 V0 (frm c u 2) u)) (V2 V0 (frm c u 3) u)) (V2 V0 (frm c u 4) u)
/-- The final contents of a unit's columns: each block of 64 rows as its own device finished it. -/
def Wf (u : Fin 8) : Acc F := fun i => V3 V0 (ownD u ((i 0).val / 64)) u i
/-- What transfer `s` of unit `u` carries away from device `c` (the accumulator at that time). -/
def cont (c : Dev nD) (u : Fin 8) : Fin 10 → Acc F
  | ⟨0, _⟩ => V0 c
  | ⟨1, _⟩ => V1 V0 c u
  | ⟨2, _⟩ => V2 V0 c u
  | ⟨3, _⟩ => V2 V0 c u
  | ⟨4, _⟩ => V2 V0 c u
  | ⟨_ + 5, _⟩ => Wf V0 u

/-- The column unit of an index. -/
abbrev colU (i : S1024x1024.Idx) : Fin 8 := ⟨(i 1).val / 128, by have : (i 1).val < 1024 := (i 1).isLt; omega⟩
/-- The result, on every device. -/
def outV : FVec F S1024x1024 .f32 := extf .f32 (fun i => Wf V0 (colU i) i : Acc F) bitsLt_bf16_f32

/-! ## Pieces of memory -/

/-- Elements of device `c`'s accumulator. -/
def accL (c : Dev nD) (I : Finset S1024x1024.Idx) (q : PosShare TreeShare) (f : Acc F) : sProp 𝕄 :=
  (c : Thread nD τ).loc cc0_scratch0 ↦[I]{q} f
/-- The place on device `r` where transfer `s` of unit `u` from `c` lands, holding anything. -/
def anyDst (c r : Dev nD) (u : Fin 8) (s : Fin 10) : sProp 𝕄 :=
  iprop(∃ fd : Buf (Elt F) ((dstM c u s).view.loc (r : Thread nD τ)), (dstM c u s).view.loc (r : Thread nD τ) ↦[(dstM c u s).view.set]{fullShare} fd)
/-- The same, holding what `c` sent. -/
def filled (c r : Dev nD) (u : Fin 8) (s : Fin 10) : sProp 𝕄 :=
  iprop(∃ fd : Buf (Elt F) ((dstM c u s).view.loc (r : Thread nD τ)), (dstM c u s).view.loc (r : Thread nD τ) ↦[(dstM c u s).view.set]{fullShare}
    ((dstM c u s).view.write (Elt F) fd ((srcM c u s).view.read (Elt F) (cont V0 c u s)) Finset.univ))

instance accL_storable (c : Dev nD) (I q) (f : Acc F) : BI.Storable (upEmb : UEmb _ 𝕄) (accL c I q f) := by unfold accL; infer_instance
instance anyDst_storable (c r : Dev nD) (u s) : BI.Storable (upEmb : UEmb _ 𝕄) (anyDst (F := F) c r u s) := by unfold anyDst; infer_instance
instance filled_storable (c r : Dev nD) (u s) : BI.Storable (upEmb : UEmb _ 𝕄) (filled V0 c r u s) := by unfold filled; infer_instance

/-! ## Payloads -/

/-- The share of the source that a transfer into an accumulator reads: three of them read the same rows. -/
def shr : Fin 10 → PosShare TreeShare
  | ⟨5, _⟩ => fullShare.left
  | ⟨6, _⟩ => fullShare.right.left
  | ⟨7, _⟩ => fullShare.right.right
  | _ => fullShare

/-- Handed over when transfer `s` of unit `u` has landed on `r`. -/
def recvPay (r : Dev nD) (u : Fin 8) (s : Fin 10) : sProp 𝕄 :=
  iprop(filled V0 (frm r u s) r u s ∗ if s.val < 5 then accL (frm r u s) (reg (frm r u s) u s) fullShare (cont V0 (frm r u s) u s) else iprop(emp))
/-- Handed over when transfer `s` of unit `u` has left `c`. -/
def sendPay (c : Dev nD) (u : Fin 8) (s : Fin 10) : sProp 𝕄 :=
  if s.val < 5 then iprop(emp) else accL c (reg c u s) (shr s) (cont V0 c u s)
/-- Handed to `b` by the device whose barrier signal `d` comes to it. -/
def barPay (b : Dev nD) (d : D) : sProp 𝕄 :=
  bigSep Finset.univ fun us : Fin 8 × Fin 5 =>
    if dirOf us.1 us.2 = d then anyDst (F := F) b (peer b us.1 (lift5 us.2)) us.1 (lift5 us.2) else iprop(emp)

instance recvPay_storable (r : Dev nD) (u s) : BI.Storable (upEmb : UEmb _ 𝕄) (recvPay V0 r u s) := by
  unfold recvPay; split <;> infer_instance
instance sendPay_storable (c : Dev nD) (u s) : BI.Storable (upEmb : UEmb _ 𝕄) (sendPay V0 c u s) := by
  unfold sendPay; split <;> infer_instance
instance barPay_storable (b : Dev nD) (d) : BI.Storable (upEmb : UEmb _ 𝕄) (barPay (F := F) b d) := by
  unfold barPay
  have (us : Fin 8 × Fin 5) : BI.Storable (upEmb : UEmb _ 𝕄)
      (if dirOf us.1 us.2 = d then anyDst (F := F) b (peer b us.1 (lift5 us.2)) us.1 (lift5 us.2) else iprop(emp)) := by
    split <;> infer_instance
  infer_instance

/-! ## The schedule -/

def dutiesOf : Option Cell → Finset D
  | some none => Finset.univ
  | some (some _) => {0}
  | none => ∅
def amountOf' : Option Cell → ℕ
  | some (some (_, _, s)) => N s
  | _ => 1
def payOf (c : Dev nD) (d : D) : Option Cell → sProp 𝕄
  | some none => barPay (F := F) c d
  | some (some (false, u, s)) => sendPay V0 c u s
  | some (some (true, u, s)) => recvPay V0 c u s
  | none => iprop(emp)

instance payOf_storable (c : Dev nD) (d : D) : ∀ k, BI.Storable (upEmb : UEmb _ 𝕄) (payOf V0 c d k)
  | some none => barPay_storable c d
  | some (some (false, u, s)) => sendPay_storable V0 c u s
  | some (some (true, u, s)) => recvPay_storable V0 c u s
  | none => by unfold payOf; infer_instance

def Rd : Rounds.Schedule (GSem nD τ sig) D 𝕄 where
  duties g r := if r = 0 ∧ g.1.2 = .tc then dutiesOf (kindOf g.2) else ∅
  unitless _ := False
  amount g _ _ := amountOf' (kindOf g.2)
  payload g _ d := payOf V0 g.1.1 d (kindOf g.2)
  amount_pos g _ _ _ := by
    show 0 < amountOf' (kindOf g.2)
    rcases kindOf g.2 with _ | _ | ⟨_, _, s⟩
    · exact Nat.one_pos
    · exact Nat.one_pos
    · exact N_pos s

instance Rd_payload_storable (g : GSem nD τ sig) (r : ℕ) (d : D) : BI.Storable (upEmb : UEmb _ 𝕄) ((Rd V0).payload g r d) :=
  payOf_storable V0 g.1.1 d (kindOf g.2)

section Sched
variable (c : Dev nD) (u : Fin 8) (s : Fin 10)

theorem duties_bar : (Rd V0).duties (barC c) 0 = Finset.univ := by dsimp only [Rd]; exact if_pos ⟨rfl, rfl⟩
theorem duties_snd : (Rd V0).duties (sndC c u s) 0 = {0} := by dsimp only [Rd]; rw [if_pos ⟨rfl, rfl⟩, kind_snd]; rfl
theorem duties_rcv : (Rd V0).duties (rcvC c u s) 0 = {0} := by dsimp only [Rd]; rw [if_pos ⟨rfl, rfl⟩, kind_rcv]; rfl
theorem duties_later (g : GSem nD τ sig) : ∀ r, 1 ≤ r → (Rd V0).duties g r = ∅ := fun r hr => by dsimp only [Rd]; exact if_neg fun h => by omega
theorem amount_bar (d : D) : (Rd V0).amount (barC c) 0 d = 1 := rfl
theorem amount_snd (d : D) : (Rd V0).amount (sndC c u s) 0 d = N s := by show amountOf' _ = _; rw [kind_snd]; rfl
theorem amount_rcv (d : D) : (Rd V0).amount (rcvC c u s) 0 d = N s := by show amountOf' _ = _; rw [kind_rcv]; rfl
theorem payload_bar (d : D) : (Rd V0).payload (barC c) 0 d = barPay c d := rfl
theorem payload_snd (d : D) : (Rd V0).payload (sndC c u s) 0 d = sendPay V0 c u s := by show payOf _ _ _ _ = _; rw [kind_snd]; rfl
theorem payload_rcv (d : D) : (Rd V0).payload (rcvC c u s) 0 d = recvPay V0 c u s := by show payOf _ _ _ _ = _; rw [kind_rcv]; rfl
theorem expect_bar : (Rd V0).expect (barC c) 0 = 5 := by
  unfold Schedule.expect Schedule.amountOf
  rw [duties_bar, Finset.sum_congr rfl fun d _ => amount_bar V0 c d]; rfl
theorem expect_snd : (Rd V0).expect (sndC c u s) 0 = N s := by
  unfold Schedule.expect Schedule.amountOf; rw [duties_snd, Finset.sum_singleton, amount_snd]
theorem expect_rcv : (Rd V0).expect (rcvC c u s) 0 = N s := by
  unfold Schedule.expect Schedule.amountOf; rw [duties_rcv, Finset.sum_singleton, amount_rcv]
theorem rest_bar : bigSep ((Rd V0).duties (barC c) 0 \ ∅) (fun d => (Rd V0).payload (barC c) 0 d) = bigSep Finset.univ (fun d => barPay (F := F) c d) := by
  rw [Finset.sdiff_empty, duties_bar]; rfl
theorem rest_snd : bigSep ((Rd V0).duties (sndC c u s) 0 \ ∅) (fun d => (Rd V0).payload (sndC c u s) 0 d) = sendPay V0 c u s := by
  rw [Finset.sdiff_empty, duties_snd, bigSep_singleton, payload_snd]
theorem rest_rcv : bigSep ((Rd V0).duties (rcvC c u s) 0 \ ∅) (fun d => (Rd V0).payload (rcvC c u s) 0 d) = recvPay V0 c u s := by
  rw [Finset.sdiff_empty, duties_rcv, bigSep_singleton, payload_rcv]

end Sched
end Values

/-! ## Levels, and what is owed -/

/-- The place of a transfer in its unit's own course. -/
def stageOf : Fin 10 → ℕ := ![0, 1, 2, 2, 2, 3, 3, 3, 4, 5]
def L (g : GSem nD τ sig) : Finset Unit := if g.1.2 = .tc then {()} else ∅
def lvOf : Option Cell → ℕ
  | some none => 1
  | some (some (true, u, s)) => 2 + stageOf s + u.val % 4
  | _ => 0
/-- The barrier lowest, then the receive cells in the order in which they are waited for. -/
def lv (g : GSem nD τ sig) (_ : Unit) : ℕ := lvOf (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barC c) () = 1 := rfl
theorem lv_snd (c : Dev nD) (u s) : lv (sndC c u s) () = 0 := by unfold lv; rw [kind_snd]; rfl
theorem lv_rcv (c : Dev nD) (u s) : lv (rcvC c u s) () = 2 + stageOf s + u.val % 4 := by unfold lv; rw [kind_rcv]; rfl

/-- What the start of transfer `s` of unit `u` discharges: the landing on the peer. -/
def tl (c : Dev nD) (u : Fin 8) (s : Fin 10) : CellTallies nD τ sig Unit := tallyAt (rcvC (peer c u s) u s) () (N s)
/-- What signal `d` discharges. -/
def tb (c : Dev nD) (d : D) : CellTallies nD τ sig Unit := tallyAt (barC (sigDev c d)) () 1
/-- What a device owes before a step, given what it owes after it. -/
def addOwed (c : Dev nD) (u : Fin 8) (O : CellTallies nD τ sig Unit) : Fin 7 → CellTallies nD τ sig Unit
  | ⟨0, _⟩ => O + tl c u 0
  | ⟨1, _⟩ => O + tl c u 1
  | ⟨2, _⟩ => O + tl c u 4 + tl c u 3 + tl c u 2
  | ⟨3, _⟩ => O + tl c u 7 + tl c u 6 + tl c u 5
  | ⟨4, _⟩ => O + tl c u 8
  | ⟨5, _⟩ => O + tl c u 9
  | ⟨_ + 6, _⟩ => O
/-- What a device owes before a list of steps. -/
def owedL (c : Dev nD) : List (Fin 8 × Fin 7) → CellTallies nD τ sig Unit
  | [] => 0
  | (u, k) :: l => addOwed c u (owedL c l) k
/-- What a device owes at launch. -/
def O₀ (c : Dev nD) : CellTallies nD τ sig Unit := owedL c sched + tb c 4 + tb c 3 + tb c 2 + tb c 1 + tb c 0

/-- Everything owed lies above level `n`. -/
def Above (n : ℕ) (O : CellTallies nD τ sig Unit) : Prop := ∀ g i, 0 < O g i → g.1.2 = .tc ∧ n < lv g i
theorem Above.zero (n : ℕ) : Above n 0 := fun g i h => absurd h (Nat.lt_irrefl 0)
theorem Above.add {n : ℕ} {O O' : CellTallies nD τ sig Unit} (h : Above n O) (h' : Above n O') : Above n (O + O') := fun g i hg => by
  rw [Pi.add_apply, Finsupp.add_apply] at hg
  rcases Nat.eq_zero_or_pos (O g i) with h0 | h0
  · exact h' g i (by omega)
  · exact h g i h0
theorem Above.tally {n : ℕ} {c : Dev nD} {sm : SemLoc sig} {k : ℕ} (h : n < lv ((c : Thread nD τ), sm) ()) : Above n (tallyAt ((c : Thread nD τ), sm) () k) := fun g i hg => by
  rw [tallyAt_apply] at hg
  by_cases e : g = ((c : Thread nD τ), sm) ∧ i = ()
  · rw [e.1]; exact ⟨rfl, h⟩
  · rw [if_neg e] at hg; exact absurd hg (Nat.lt_irrefl 0)
theorem Above.of_add_left {n : ℕ} {O O' : CellTallies nD τ sig Unit} (h : Above n (O + O')) : Above n O := fun g i hg =>
  h g i (by rw [Pi.add_apply, Finsupp.add_apply]; omega)
theorem Above.mono {n n' : ℕ} {O : CellTallies nD τ sig Unit} (h : Above n O) (hn : n' ≤ n) : Above n' O := fun g i hg => ⟨(h g i hg).1, by have := (h g i hg).2; omega⟩
theorem Above.tl {n : ℕ} {c : Dev nD} {u : Fin 8} {s : Fin 10} (h : n < 2 + stageOf s + u.val % 4) : Above n (tl c u s) := Above.tally (by rw [lv_rcv]; exact h)
theorem Above.mayWait {n : ℕ} {O : CellTallies nD τ sig Unit} (h : Above n O) {c : Dev nD} {sm : SemLoc sig} (hn : lv ((c : Thread nD τ), sm) () ≤ n) :
    (levAts L lv : sProp 𝕄) ⊢ MayWait (c : Thread nD τ) sm () O :=
  Pipeline.mayWait_of_levAts (by rw [L_tc]; exact Finset.mem_singleton_self _) fun g i hg => by
    obtain ⟨h1, h2⟩ := h g i hg
    refine ⟨by unfold L; rw [if_pos h1]; exact Finset.mem_singleton_self _, ?_⟩
    exact lt_of_le_of_lt hn h2

/-- A step's transfers lie above `n`. -/
theorem addOwed_above {n : ℕ} {c : Dev nD} {u : Fin 8} {O : CellTallies nD τ sig Unit} (h : Above n O) : ∀ k : Fin 7, (k.val < 6 → n < 2 + k.val + u.val % 4) → Above n (addOwed c u O k)
  | ⟨0, _⟩, hk => h.add (Above.tl (s := 0) (hk (by show 0 < 6; decide)))
  | ⟨1, _⟩, hk => h.add (Above.tl (s := 1) (hk (by show 1 < 6; decide)))
  | ⟨2, _⟩, hk => ((h.add (Above.tl (s := 4) (hk (by show 2 < 6; decide)))).add (Above.tl (s := 3) (hk (by show 2 < 6; decide)))).add (Above.tl (s := 2) (hk (by show 2 < 6; decide)))
  | ⟨3, _⟩, hk => ((h.add (Above.tl (s := 7) (hk (by show 3 < 6; decide)))).add (Above.tl (s := 6) (hk (by show 3 < 6; decide)))).add (Above.tl (s := 5) (hk (by show 3 < 6; decide)))
  | ⟨4, _⟩, hk => h.add (Above.tl (s := 8) (hk (by show 4 < 6; decide)))
  | ⟨5, _⟩, hk => h.add (Above.tl (s := 9) (hk (by show 5 < 6; decide)))
  | ⟨_ + 6, _⟩, _ => h

/-- The remaining steps' transfers lie above `n`. -/
def ListAbove (n : ℕ) (l : List (Fin 8 × Fin 7)) : Prop := ∀ p ∈ l, p.2.val < 6 → n < 2 + p.2.val + p.1.val % 4
instance (n l) : Decidable (ListAbove n l) := by unfold ListAbove; infer_instance
theorem owedL_above {n : ℕ} {c : Dev nD} : ∀ {l : List (Fin 8 × Fin 7)}, ListAbove n l → Above n (owedL c l)
  | [], _ => Above.zero n
  | (u, k) :: l, h => addOwed_above (owedL_above fun p hp => h p (List.mem_cons_of_mem _ hp)) k (h (u, k) List.mem_cons_self)

end Cert.KernelIdeal.K
-- ==== Proof.KernelIdeal.Rules.lean ====
module

public import proofs.«01_k».proof.Proof.KernelIdeal.Proto

/-! # Triples for the commands

`T V0 K c P a Q` says that on device `c` the program `a` takes `P` to `Q`, the cells' invariants and the levels being
known. One triple for the start of a transfer, one for its two waits, one for each computation. -/

@[expose] public section

set_option maxRecDepth 65536

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (V0 : Dev nD → Acc F) (K : Dev nD × Cell → ℕ) (c : Dev nD)

/-- Every cell's invariant, and that its round has begun. -/
def records : sProp 𝕄 :=
  iprop((bigSep Finset.univ fun ck : Dev nD × Cell => cellInv ER (Rd V0) (K ck) (kcell ck))
    ∗ bigSep Finset.univ fun ck : Dev nD × Cell => reached ER (kcell ck) 0)
instance records_persistent : BI.Persistent (records V0 K) := by unfold records; infer_instance

/-- What every device knows throughout. -/
def ctx : sProp 𝕄 := iprop(records V0 K ∗ levAts L lv)
instance ctx_persistent : BI.Persistent (ctx V0 K) := by unfold ctx; infer_instance

omit [FloatOps F] in
/-- One of the summands. -/
theorem bigSep_one {I : Type} [DecidableEq I] {S : Finset I} {i : I} (h : i ∈ S) {Φ : I → sProp 𝕄} : bigSep S Φ ⊢ Φ i := bigSep_elim h

theorem ctx_lev : ctx V0 K ⊢ (levAts L lv : sProp 𝕄) := by unfold ctx; iintro ⟨-, H⟩; iexact H
theorem ctx_inv (ck : Dev nD × Cell) : ctx V0 K ⊢ cellInv ER (Rd V0) (K ck) (kcell ck) := by
  unfold ctx records
  iintro ⟨⟨H, -⟩, -⟩
  iapply (bigSep_one (Φ := fun ck : Dev nD × Cell => (cellInv ER (Rd V0) (K ck) (kcell ck) : sProp 𝕄)) (Finset.mem_univ ck)); iexact H
theorem ctx_reached (ck : Dev nD × Cell) : ctx V0 K ⊢ (reached ER (kcell ck) 0 : sProp 𝕄) := by
  unfold ctx records
  iintro ⟨⟨-, H⟩, -⟩
  iapply (bigSep_one (Φ := fun ck : Dev nD × Cell => (reached ER (kcell ck) 0 : sProp 𝕄)) (Finset.mem_univ ck)); iexact H

/-- A device's weakest precondition. -/
abbrev WP {α : Type} (a : PB F α) (Q : α → sProp 𝕄) : sProp 𝕄 := wp frame (wpE (defs₀ (F := F)) 𝒱₀ (c : Thread nD τ) none) Set.univ a Q

/-- The triple. -/
def T (P : sProp 𝕄) (a : PB F PUnit) (Q : sProp 𝕄) : Prop := iprop(ctx V0 K ∗ P) ⊢ WP c a fun _ => Q

variable {V0 K c}

theorem T.bind {P Q : sProp 𝕄} {a : PB F PUnit} (h : T V0 K c P a Q) {α : Type} {k : PUnit → PB F α} {Φ : α → sProp 𝕄} :
    iprop(ctx V0 K ∗ P) ⊢ iprop((Q -∗ WP c (k ⟨⟩) Φ) -∗ WP c (a >>= k) Φ) := by
  unfold WP
  rw [wp_bind]
  refine h.trans ((wp_wand _ _ _ (Q := fun _ => Q) (Q' := fun x => WP c (k x) Φ)).trans ?_)
  iintro H Hk
  iapply H
  iintro %x HQ
  iapply Hk
  iexact HQ

theorem T.last {P Q : sProp 𝕄} {a : PB F PUnit} (h : T V0 K c P a Q) {Q' : sProp 𝕄} :
    iprop(ctx V0 K ∗ P) ⊢ iprop((Q -∗ Q') -∗ WP c a fun _ => Q') := by
  refine h.trans ((wp_wand _ _ _ (Q := fun _ => Q) (Q' := fun _ => Q')).trans ?_)
  iintro H Hk
  iapply H
  iintro %x HQ
  iapply Hk
  iexact HQ

theorem T.conseq {P P' Q Q' : sProp 𝕄} {a : PB F PUnit} (h : T V0 K c P a Q) (hP : P' ⊢ P) (hQ : Q ⊢ Q') : T V0 K c P' a Q' :=
  (sep_mono_right hP).trans (h.trans (wp_mono _ _ _ fun _ => hQ))

theorem T.frame {P Q : sProp 𝕄} {a : PB F PUnit} (h : T V0 K c P a Q) (R : sProp 𝕄) : T V0 K c iprop(P ∗ R) a iprop(Q ∗ R) := by
  unfold T
  iintro ⟨C, HP, HR⟩
  iapply h.last $$ [C HP]
  · isplitl [C] <;> iassumption
  iintro HQ
  isplitl [HQ] <;> iassumption

variable (V0 K c)

/-- What a device owes, whatever it has waited for. -/
def Ow (O : CellTallies nD τ sig Unit) : sProp 𝕄 := iprop(∃ W, owes (c : Thread nD τ) O W)

variable (u : Fin 8) (s : Fin 10)

/-- The tokens of the two duties that a transfer pays. -/
def Tok : sProp 𝕄 := iprop(dutyTok ER (sndC c u s) 0 0 ∗ dutyTok ER (rcvC (peer c u s) u s) 0 0)
/-- The two cells of a transfer before their wait. -/
def Pos : sProp 𝕄 := iprop(atPos ER (sndC c u s) 0 ∅ 0 ∗ atPos ER (rcvC c u s) 0 ∅ 0)
/-- The credits that the two waits take. -/
def CrR : sProp 𝕄 := cred (tallyAt (rcvC c u s) () (N s))
def CrS : sProp 𝕄 := cred (tallyAt (sndC c u s) () (N s))
/-- A transfer that has not begun, one under way, and one that is over. -/
def Pend : sProp 𝕄 := iprop(Tok c u s ∗ Pos c u s ∗ CrR c u s)
def Fly : sProp 𝕄 := iprop(CrS c u s ∗ Pos c u s ∗ CrR c u s)
def Dn : sProp 𝕄 := iprop(semVal (sndC c u s) 0 ∗ semVal (rcvC c u s) 0)

theorem acc_src (q : PosShare TreeShare) (f : Acc F) :
    (accL c (reg c u s) q f : sProp 𝕄) = ((srcM c u s).view.loc (c : Thread nD τ) ↦[(srcM c u s).view.set]{q} f) := by
  unfold accL; rw [srcM_set]; rfl

theorem sendPay_lt (h : s.val < 5) : sendPay V0 c u s = iprop(emp) := if_pos h
theorem sendPay_ge (h : ¬ s.val < 5) : sendPay V0 c u s = accL c (reg c u s) (shr s) (cont V0 c u s) := if_neg h
theorem shr_lt : ∀ s : Fin 10, s.val < 5 → shr s = fullShare
  | ⟨0, _⟩, _ => rfl | ⟨1, _⟩, _ => rfl | ⟨2, _⟩, _ => rfl | ⟨3, _⟩, _ => rfl | ⟨4, _⟩, _ => rfl
  | ⟨_ + 5, _⟩, h => absurd h (by simp)

theorem recvPay_peer : recvPay V0 (peer c u s) u s
    = iprop(filled V0 c (peer c u s) u s ∗ if s.val < 5 then accL c (reg c u s) fullShare (cont V0 c u s) else iprop(emp)) := by
  unfold recvPay; rw [frm_peer]

/-- The start of a transfer. -/
theorem issue (O : CellTallies nD τ sig Unit) :
    T V0 K c iprop(Pend c u s ∗ accL c (reg c u s) (shr s) (cont V0 c u s) ∗ anyDst (F := F) c (peer c u s) u s ∗ Ow c (O + tl c u s)) (issueP c u s)
      iprop(Fly c u s ∗ Ow c O) := by
  unfold T Pend Fly Tok CrS Ow anyDst WP issueP Prog.lift
  rw [acc_src]
  iintro ⟨#C, ⟨⟨HtS, HtR⟩, Hpos, Hcr⟩, Hsrc, ⟨%fd, Hdst⟩, ⟨%W, HO⟩⟩
  by_cases h : s.val < 5
  · iapply (Rounds.wp_send_landing_pointsTo 𝒱₀ ER (Rd V0) (c : Thread nD τ) none (κ₁ := K (c, some (false, u, s))) (κ₂ := K (peer c u s, some (true, u, s)))
      (r₁ := 0) (r₂ := 0) (d₁ := 0) (d₂ := 0) (fd := fd) (q := shr s) (fs := cont V0 c u s)
      (by rw [duties_snd]; exact Finset.mem_singleton_self _) (by rw [duties_rcv]; exact Finset.mem_singleton_self _)
      () () (N s) (show (dstM c u s).view.amount (.dma (rcvS u s)) = N s from dst_credit c u s) (amount_snd V0 c u s 0) (amount_rcv V0 (peer c u s) u s 0) O rfl (W := W)
      (by rw [payload_snd, sendPay_lt V0 c u s h])
      (by
        rw [payload_rcv, recvPay_peer, if_pos h, acc_src, shr_lt s h]
        unfold filled
        iintro ⟨H1, H2⟩
        isplitl [H1]; · iexists fd; iexact H1
        iexact H2)) $$ [HtS HtR Hsrc Hdst HO]
    · isplitr; · iapply (ctx_inv V0 K (c, some (false, u, s))); iexact C
      isplitr; · iapply (ctx_inv V0 K (peer c u s, some (true, u, s))); iexact C
      isplitl [Hsrc]; · iexact Hsrc
      isplitl [Hdst]; · iexact Hdst
      isplitl [HO]; · iexact HO
      isplitl [HtS]; · iexact HtS
      isplitr; · iapply (ctx_reached V0 K (c, some (false, u, s))); iexact C
      isplitl [HtR]; · iexact HtR
      iapply (ctx_reached V0 K (peer c u s, some (true, u, s))); iexact C
    iintro ⟨HcS, HO⟩
    rw [wp_ret]; imodintro
    isplitl [HcS Hpos Hcr]
    · isplitl [HcS]; · iexact HcS
      isplitl [Hpos] <;> iassumption
    iexists W; iexact HO
  · iapply (Rounds.wp_send_pointsTo 𝒱₀ ER (Rd V0) (c : Thread nD τ) none (κ₁ := K (c, some (false, u, s))) (κ₂ := K (peer c u s, some (true, u, s)))
      (r₁ := 0) (r₂ := 0) (d₁ := 0) (d₂ := 0) (fd := fd) (q := shr s) (fs := cont V0 c u s)
      (by rw [duties_snd]; exact Finset.mem_singleton_self _) (by rw [duties_rcv]; exact Finset.mem_singleton_self _)
      () () (N s) (show (dstM c u s).view.amount (.dma (rcvS u s)) = N s from dst_credit c u s) (amount_snd V0 c u s 0) (amount_rcv V0 (peer c u s) u s 0) O rfl (W := W)
      (by rw [payload_snd, sendPay_ge V0 c u s h, acc_src])
      (by
        rw [payload_rcv, recvPay_peer, if_neg h]
        unfold filled
        iintro H1
        isplitl [H1]; · iexists fd; iexact H1
        iempintro)) $$ [HtS HtR Hsrc Hdst HO]
    · isplitr; · iapply (ctx_inv V0 K (c, some (false, u, s))); iexact C
      isplitr; · iapply (ctx_inv V0 K (peer c u s, some (true, u, s))); iexact C
      isplitl [Hsrc]; · iexact Hsrc
      isplitl [Hdst]; · iexact Hdst
      isplitl [HO]; · iexact HO
      isplitl [HtS]; · iexact HtS
      isplitr; · iapply (ctx_reached V0 K (c, some (false, u, s))); iexact C
      isplitl [HtR]; · iexact HtR
      iapply (ctx_reached V0 K (peer c u s, some (true, u, s))); iexact C
    iintro ⟨HcS, HO⟩
    rw [wp_ret]; imodintro
    isplitl [HcS Hpos Hcr]
    · isplitl [HcS]; · iexact HcS
      isplitl [Hpos] <;> iassumption
    iexists W; iexact HO

/-- The two waits of a transfer. -/
theorem waits {n : ℕ} {O : CellTallies nD τ sig Unit} (hO : Above n O) (hn : 2 + stageOf s + u.val % 4 ≤ n) :
    T V0 K c iprop(Fly c u s ∗ Ow c O) (waitsP c u s) iprop(Dn c u s ∗ sendPay V0 c u s ∗ recvPay V0 c u s ∗ Ow c O) := by
  unfold T Fly Pos CrS CrR Ow Dn WP waitsP sndWaitP rcvWaitP Prog.lift
  simp only [Prog.bind_op, Prog.bind_ret]
  iintro ⟨#C, ⟨HcS, ⟨HaS, HaR⟩, HcR⟩, ⟨%W, HO⟩⟩
  iapply (Rounds.wp_wait_rest_token 𝒱₀ ER (Rd V0) (c : Thread nD τ) none (κ := K (c, some (false, u, s)))
      (wpE_waitDma2_eq 𝒱₀ (c : Thread nD τ) none Set.univ) (Set.mem_univ _) () (O := O) (W := W) (R := 0) (m := 0) (T := ∅)
      (by rw [Nat.zero_add, expect_snd]; exact src_credit c u s)) $$ [HcS HO HaS]
  · isplitr; · iapply (ctx_inv V0 K (c, some (false, u, s))); iexact C
    isplitl [HcS]; · iexact HcS
    isplitl [HO]; · iexact HO
    isplitr; · iapply (hO.mayWait (c := c) (sm := .dma (sndS u s)) (by rw [lv_snd]; exact Nat.zero_le _)); iapply (ctx_lev V0 K); iexact C
    iexact HaS
  iintro ⟨HO, HaS, -, Hpay⟩
  ihave HpS := (Entails.of_eq (rest_snd V0 c u s)) $$ Hpay
  iapply (Rounds.wp_wait_rest_token 𝒱₀ ER (Rd V0) (c : Thread nD τ) none (κ := K (c, some (true, u, s)))
      (wpE_waitDma2_eq 𝒱₀ (c : Thread nD τ) none Set.univ) (Set.mem_univ _) () (O := O) (R := 0) (m := 0) (T := ∅)
      (by rw [Nat.zero_add, expect_rcv]; exact dst_credit c u s)) $$ [HcR HO HaR]
  · isplitr; · iapply (ctx_inv V0 K (c, some (true, u, s))); iexact C
    isplitl [HcR]; · iexact HcR
    isplitl [HO]; · iexact HO
    isplitr; · iapply (hO.mayWait (c := c) (sm := .dma (rcvS u s)) (by rw [lv_rcv]; exact hn)); iapply (ctx_lev V0 K); iexact C
    iexact HaR
  iintro ⟨HO, HaR, -, Hpay⟩
  ihave HpR := (Entails.of_eq (rest_rcv V0 c u s)) $$ Hpay
  imod (Rounds.cell_close ER (Rd V0) (Set.mem_univ (K (c, some (false, u, s)))) (fun h => h) (R := 0 + 1) (duties_later V0 (sndC c u s))) $$ [HaS] with HzS
  · isplitr; · iapply (ctx_inv V0 K (c, some (false, u, s))); iexact C
    iexact HaS
  imod (Rounds.cell_close ER (Rd V0) (Set.mem_univ (K (c, some (true, u, s)))) (fun h => h) (R := 0 + 1) (duties_later V0 (rcvC c u s))) $$ [HaR] with HzR
  · isplitr; · iapply (ctx_inv V0 K (c, some (true, u, s))); iexact C
    iexact HaR
  rw [wp_ret]; imodintro
  isplitl [HzS HzR]
  · isplitl [HzS] <;> iassumption
  isplitl [HpS]; · iexact HpS
  isplitl [HpR]; · iexact HpR
  iexists _; iexact HO

end Cert.KernelIdeal.K
-- ==== Proof.KernelIdeal.Compute.lean ====
module

public import proofs.«01_k».proof.Proof.KernelIdeal.Rules
public import Idealize.ShloMosaic.Lib.Pipeline.Value

/-! # The computations

Each reduction adds what landed in a receive buffer to the rows that the device keeps; the last step widens a unit's
columns into the result; the first computes the local product. -/

@[expose] public section

set_option maxRecDepth 65536

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V0 : Dev nD → Acc F) (K : Dev nD × Cell → ℕ) (c : Dev nD) (u : Fin 8)

/-! ## Values -/

omit [FloatOps F] in
theorem unit_emb {off off' size : Fin 2 → ℕ} {inb inb'} (h : ∀ a, off a = off' a) (x) :
    (Rect.unit (s := S1024x1024) off size inb).emb x = (Rect.unit (s := S1024x1024) off' size inb').emb x := by
  obtain rfl : off = off' := funext h
  rfl

/-- A store into a rectangle of the accumulator, of what some contents hold there. -/
theorem acc_write {r : Rect S1024x1024} {f W : Acc F} {w : r.shape.Idx → Elt F .bf16} (h : ∀ x, w x = W (r.emb x)) :
    ∀ i ∈ r.set, ((accM.access r : View sig .tc .vmem r.shape .bf16).write (Elt F) f w Finset.univ) i = W i := by
  intro i hi
  rw [← Rect.map_emb_univ] at hi
  obtain ⟨x, -, rfl⟩ := Finset.mem_map.mp hi
  refine Eq.trans ?_ (h x)
  exact View.write_emb_of_mem _ _ (Finset.mem_univ x)

omit [FloatOps F] in
theorem unit_set {off off' size size' : Fin 2 → ℕ} {inb inb'} (h : ∀ a, off a = off' a) (h' : size = size') :
    (Rect.unit (s := S1024x1024) off size inb).set = (Rect.unit (s := S1024x1024) off' size' inb').set := by
  obtain rfl : off = off' := funext h
  subst h'
  rfl

theorem redR0_set : (redR c u 0).set = reg c u 9 := (unit_set (redOff_eq c u 0) rfl).trans (srcRect_set c u 9)
theorem redR1_set : (redR c u 1).set = reg c u 8 := (unit_set (redOff_eq c u 1) rfl).trans (srcRect_set c u 8)
theorem redR2_set : (redR c u 2).set = reg c u 5 := (unit_set (redOff_eq c u 2) rfl).trans (srcRect_set c u 5)

/-- What is read from a receive buffer is what was sent. -/
theorem rb0_read (q : Dev nD) (fd : (cc0_scratch1 : Ref sig .tc).ty.Contents (Elt F)) (X : FVec F S512x128 .bf16) :
    shapeCast S512x128 ((rb0M.access (Rect.unit (s := S8x512x128) ![u.val, 0, 0] S1x512x128.size (rb0_inb u))).read (Elt F)
      ((dstM q u 0).view.write (Elt F) fd X Finset.univ)) shapeCasts_S1x512x128_S512x128 = X :=
  View.read_write_univ (v := (dstM q u 0).view) fd X
theorem rb1_read (q : Dev nD) (fd : (cc0_scratch2 : Ref sig .tc).ty.Contents (Elt F)) (X : FVec F S256x128 .bf16) :
    shapeCast S256x128 ((rb1M.access (Rect.unit (s := S8x256x128) ![u.val, 0, 0] S1x256x128.size (rb1_inb u))).read (Elt F)
      ((dstM q u 1).view.write (Elt F) fd X Finset.univ)) shapeCasts_S1x256x128_S256x128 = X :=
  View.read_write_univ (v := (dstM q u 1).view) fd X
theorem rbz0_read (q : Dev nD) (fd : (cc0_scratch3 : Ref sig .tc).ty.Contents (Elt F)) (X : FVec F S64x128 .bf16) :
    shapeCast S64x128 ((rbzM.access (Rect.unit (s := S8x3x64x128) ![u.val, 0, 0, 0] S1x1x64x128.size (rbz_inb u 0))).read (Elt F)
      ((dstM q u 2).view.write (Elt F) fd X Finset.univ)) shapeCasts_S1x1x64x128_S64x128 = X :=
  View.read_write_univ (v := (dstM q u 2).view) fd X
theorem rbz1_read (q : Dev nD) (fd : (cc0_scratch3 : Ref sig .tc).ty.Contents (Elt F)) (X : FVec F S64x128 .bf16) :
    shapeCast S64x128 ((rbzM.access (Rect.unit (s := S8x3x64x128) ![u.val, 1, 0, 0] S1x1x64x128.size (rbz_inb u 1))).read (Elt F)
      ((dstM q u 3).view.write (Elt F) fd X Finset.univ)) shapeCasts_S1x1x64x128_S64x128 = X :=
  View.read_write_univ (v := (dstM q u 3).view) fd X
theorem rbz2_read (q : Dev nD) (fd : (cc0_scratch3 : Ref sig .tc).ty.Contents (Elt F)) (X : FVec F S64x128 .bf16) :
    shapeCast S64x128 ((rbzM.access (Rect.unit (s := S8x3x64x128) ![u.val, 2, 0, 0] S1x1x64x128.size (rbz_inb u 2))).read (Elt F)
      ((dstM q u 4).view.write (Elt F) fd X Finset.univ)) shapeCasts_S1x1x64x128_S64x128 = X :=
  View.read_write_univ (v := (dstM q u 4).view) fd X

theorem pay3_eq (a : FVec F S512x128 .bf16) (b : FVec F S1x512x128 .bf16) {X Y : FVec F S512x128 .bf16}
    (hb : shapeCast S512x128 b shapeCasts_S1x512x128_S512x128 = X) (hX : X = Y) : k0_pay3 a b = addf a Y := by
  unfold k0_pay3; dsimp only; rw [hb, hX, shapeCast_self]
theorem pay5_eq (a : FVec F S256x128 .bf16) (b : FVec F S1x256x128 .bf16) {X Y : FVec F S256x128 .bf16}
    (hb : shapeCast S256x128 b shapeCasts_S1x256x128_S256x128 = X) (hX : X = Y) : k0_pay5 a b = addf a Y := by
  unfold k0_pay5; dsimp only; rw [hb, hX, shapeCast_self]
/-- What the third reduction stores. -/
def pay7 (a : FVec F S64x128 .bf16) (b b' b'' : FVec F S1x1x64x128 .bf16) : FVec F S64x128 .bf16 :=
  shapeCast S64x128 (addf (addf (addf a (shapeCast S64x128 b shapeCasts_S1x1x64x128_S64x128)) (shapeCast S64x128 b' shapeCasts_S1x1x64x128_S64x128))
    (shapeCast S64x128 b'' shapeCasts_S1x1x64x128_S64x128) : FVec F S64x128 .bf16) shapeCasts_S64x128_S64x128
theorem pay7_eq (a : FVec F S64x128 .bf16) (b b' b'' : FVec F S1x1x64x128 .bf16) {X Y X' Y' X'' Y'' : FVec F S64x128 .bf16}
    (hb : shapeCast S64x128 b shapeCasts_S1x1x64x128_S64x128 = X) (hX : X = Y)
    (hb' : shapeCast S64x128 b' shapeCasts_S1x1x64x128_S64x128 = X') (hX' : X' = Y')
    (hb'' : shapeCast S64x128 b'' shapeCasts_S1x1x64x128_S64x128 = X'') (hX'' : X'' = Y'') :
    pay7 a b b' b'' = addf (addf (addf a Y) Y') Y'' := by
  unfold pay7; rw [hb, hX, hb', hX', hb'', hX'', shapeCast_self]

/-- What a device sends, read at the rows of the receiver that it is added to. -/
theorem src0_read (f : Acc F) : (srcM (frm c u 0) u 0).view.read (Elt F) f = fun x => f ((redR c u 0).emb x) :=
  funext fun x => congrArg f (unit_emb (fun a => (redOff_src c u a).1.symm) x)
theorem src1_read (f : Acc F) : (srcM (frm c u 1) u 1).view.read (Elt F) f = fun x => f ((redR c u 1).emb x) :=
  funext fun x => congrArg f (unit_emb (fun a => (redOff_src c u a).2.1.symm) x)
theorem src2_read (f : Acc F) : (srcM (frm c u 2) u 2).view.read (Elt F) f = fun x => f ((redR c u 2).emb x) :=
  funext fun x => congrArg f (unit_emb (fun a => (redOff_src c u a).2.2.1.symm) x)
theorem src3_read (f : Acc F) : (srcM (frm c u 3) u 3).view.read (Elt F) f = fun x => f ((redR c u 2).emb x) :=
  funext fun x => congrArg f (unit_emb (fun a => (redOff_src c u a).2.2.2.1.symm) x)
theorem src4_read (f : Acc F) : (srcM (frm c u 4) u 4).view.read (Elt F) f = fun x => f ((redR c u 2).emb x) :=
  funext fun x => congrArg f (unit_emb (fun a => (redOff_src c u a).2.2.2.2.symm) x)

/-- On its own rows a device's third reduction is the final value. -/
theorem V3_final : ∀ i ∈ reg c u 5, V3 V0 c u i = Wf V0 u i := by
  intro i hi
  unfold Wf
  rw [show (i 0).val / 64 = (blk i).val from rfl, ownD_eq c u (blk i) (mem_reg.mp hi).2]

/-! ## The steps -/

/-- What landed, by its buffer. -/
theorem filled0_eq (q : Dev nD) : filled V0 q c u 0 = iprop(∃ fd : (cc0_scratch1 : Ref sig .tc).ty.Contents (Elt F),
    (c : Thread nD τ).loc cc0_scratch1 ↦[(dstM q u 0).view.set]{fullShare}
      ((dstM q u 0).view.write (Elt F) fd ((srcM q u 0).view.read (Elt F) (cont V0 q u 0)) Finset.univ)) := rfl
theorem filled1_eq (q : Dev nD) : filled V0 q c u 1 = iprop(∃ fd : (cc0_scratch2 : Ref sig .tc).ty.Contents (Elt F),
    (c : Thread nD τ).loc cc0_scratch2 ↦[(dstM q u 1).view.set]{fullShare}
      ((dstM q u 1).view.write (Elt F) fd ((srcM q u 1).view.read (Elt F) (cont V0 q u 1)) Finset.univ)) := rfl
theorem filled2_eq (q : Dev nD) : filled V0 q c u 2 = iprop(∃ fd : (cc0_scratch3 : Ref sig .tc).ty.Contents (Elt F),
    (c : Thread nD τ).loc cc0_scratch3 ↦[(dstM q u 2).view.set]{fullShare}
      ((dstM q u 2).view.write (Elt F) fd ((srcM q u 2).view.read (Elt F) (cont V0 q u 2)) Finset.univ)) := rfl
theorem filled3_eq (q : Dev nD) : filled V0 q c u 3 = iprop(∃ fd : (cc0_scratch3 : Ref sig .tc).ty.Contents (Elt F),
    (c : Thread nD τ).loc cc0_scratch3 ↦[(dstM q u 3).view.set]{fullShare}
      ((dstM q u 3).view.write (Elt F) fd ((srcM q u 3).view.read (Elt F) (cont V0 q u 3)) Finset.univ)) := rfl
theorem filled4_eq (q : Dev nD) : filled V0 q c u 4 = iprop(∃ fd : (cc0_scratch3 : Ref sig .tc).ty.Contents (Elt F),
    (c : Thread nD τ).loc cc0_scratch3 ↦[(dstM q u 4).view.set]{fullShare}
      ((dstM q u 4).view.write (Elt F) fd ((srcM q u 4).view.read (Elt F) (cont V0 q u 4)) Finset.univ)) := rfl

theorem red0 : T V0 K c iprop(accL c (reg c u 9) fullShare (V0 c) ∗ filled V0 (frm c u 0) c u 0) (red0P c u)
    iprop(accL c (reg c u 9) fullShare (V1 V0 c u) ∗ anyDst (F := F) c c u 0) := by
  unfold T WP red0P Prog.lift anyDst
  rw [filled0_eq]
  simp only [Prog.bind_op, Prog.bind_ret]
  iintro ⟨-, Ha, ⟨%fd, Hb⟩⟩
  unfold accL
  have hS := ((slice_whole_set (b := cc0_scratch0) (redR c u 0)).trans (redR0_set c u)).le
  iapply (wp_load_rect 𝒱₀ (c : Thread nD τ) none Set.univ (m := accM) (r := redR c u 0) (S := reg c u 9) (f := V0 c) hS) $$ Ha; iintro Ha
  iapply (wp_load_rect 𝒱₀ (c : Thread nD τ) none Set.univ (m := rb0M) (r := Rect.unit (s := S8x512x128) ![u.val, 0, 0] S1x512x128.size (rb0_inb u))
    (S := (dstM (frm c u 0) u 0).view.set)
    (f := (dstM (frm c u 0) u 0).view.write (Elt F) fd ((srcM (frm c u 0) u 0).view.read (Elt F) (cont V0 (frm c u 0) u 0)) Finset.univ) (View.set_reshape _ _).ge) $$ Hb; iintro Hb
  iapply (wp_load_rect 𝒱₀ (c : Thread nD τ) none Set.univ (m := accM) (r := redR c u 0) (S := reg c u 9) (f := V0 c) hS) $$ Ha; iintro Ha
  iapply (wp_store 𝒱₀ (c : Thread nD τ) none Set.univ (m := accM) (r := redR c u 0) (Mk := Finset.univ) (S := reg c u 9) (f := V0 c) hS) $$ Ha; iintro Ha
  rw [wp_ret]; imodintro
  isplitl [Ha]
  · iapply (Entails.of_eq (pointsTo_congr (fun i hi => acc_write (W := V1 V0 c u)
      (fun x => congrFun (pay3_eq _ _ (rb0_read u (frm c u 0) fd _) (src0_read c u _)) x) i (by rw [redR0_set]; exact hi)))) $$ Ha
  iexists _; iexact Hb

theorem red1 : T V0 K c iprop(accL c (reg c u 8) fullShare (V1 V0 c u) ∗ filled V0 (frm c u 1) c u 1) (red1P c u)
    iprop(accL c (reg c u 8) fullShare (V2 V0 c u) ∗ anyDst (F := F) c c u 1) := by
  unfold T WP red1P Prog.lift anyDst
  rw [filled1_eq]
  simp only [Prog.bind_op, Prog.bind_ret]
  iintro ⟨-, Ha, ⟨%fd, Hb⟩⟩
  unfold accL
  have hS := ((slice_whole_set (b := cc0_scratch0) (redR c u 1)).trans (redR1_set c u)).le
  iapply (wp_load_rect 𝒱₀ (c : Thread nD τ) none Set.univ (m := accM) (r := redR c u 1) (S := reg c u 8) (f := V1 V0 c u) hS) $$ Ha; iintro Ha
  iapply (wp_load_rect 𝒱₀ (c : Thread nD τ) none Set.univ (m := rb1M) (r := Rect.unit (s := S8x256x128) ![u.val, 0, 0] S1x256x128.size (rb1_inb u))
    (S := (dstM (frm c u 1) u 1).view.set)
    (f := (dstM (frm c u 1) u 1).view.write (Elt F) fd ((srcM (frm c u 1) u 1).view.read (Elt F) (cont V0 (frm c u 1) u 1)) Finset.univ) (View.set_reshape _ _).ge) $$ Hb; iintro Hb
  iapply (wp_load_rect 𝒱₀ (c : Thread nD τ) none Set.univ (m := accM) (r := redR c u 1) (S := reg c u 8) (f := V1 V0 c u) hS) $$ Ha; iintro Ha
  iapply (wp_store 𝒱₀ (c : Thread nD τ) none Set.univ (m := accM) (r := redR c u 1) (Mk := Finset.univ) (S := reg c u 8) (f := V1 V0 c u) hS) $$ Ha; iintro Ha
  rw [wp_ret]; imodintro
  isplitl [Ha]
  · iapply (Entails.of_eq (pointsTo_congr (fun i hi => acc_write (W := V2 V0 c u)
      (fun x => congrFun (pay5_eq _ _ (rb1_read u (frm c u 1) fd _) (src1_read c u _)) x) i (by rw [redR1_set]; exact hi)))) $$ Ha
  iexists _; iexact Hb

theorem red2 : T V0 K c iprop(accL c (reg c u 5) fullShare (V2 V0 c u) ∗ filled V0 (frm c u 2) c u 2 ∗ filled V0 (frm c u 3) c u 3 ∗ filled V0 (frm c u 4) c u 4) (red2P c u)
    iprop(accL c (reg c u 5) fullShare (Wf V0 u) ∗ anyDst (F := F) c c u 2 ∗ anyDst (F := F) c c u 3 ∗ anyDst (F := F) c c u 4) := by
  unfold T WP red2P Prog.lift anyDst
  rw [filled2_eq, filled3_eq, filled4_eq]
  simp only [Prog.bind_op, Prog.bind_ret]
  iintro ⟨-, Ha, ⟨%fd, Hb⟩, ⟨%fd', Hb'⟩, ⟨%fd'', Hb''⟩⟩
  unfold accL
  have hS := ((slice_whole_set (b := cc0_scratch0) (redR c u 2)).trans (redR2_set c u)).le
  iapply (wp_load_rect 𝒱₀ (c : Thread nD τ) none Set.univ (m := accM) (r := redR c u 2) (S := reg c u 5) (f := V2 V0 c u) hS) $$ Ha; iintro Ha
  iapply (wp_load_rect 𝒱₀ (c : Thread nD τ) none Set.univ (m := rbzM) (r := Rect.unit (s := S8x3x64x128) ![u.val, 0, 0, 0] S1x1x64x128.size (rbz_inb u 0))
    (S := (dstM (frm c u 2) u 2).view.set)
    (f := (dstM (frm c u 2) u 2).view.write (Elt F) fd ((srcM (frm c u 2) u 2).view.read (Elt F) (cont V0 (frm c u 2) u 2)) Finset.univ) (View.set_reshape _ _).ge) $$ Hb; iintro Hb
  iapply (wp_load_rect 𝒱₀ (c : Thread nD τ) none Set.univ (m := rbzM) (r := Rect.unit (s := S8x3x64x128) ![u.val, 1, 0, 0] S1x1x64x128.size (rbz_inb u 1))
    (S := (dstM (frm c u 3) u 3).view.set)
    (f := (dstM (frm c u 3) u 3).view.write (Elt F) fd' ((srcM (frm c u 3) u 3).view.read (Elt F) (cont V0 (frm c u 3) u 3)) Finset.univ) (View.set_reshape _ _).ge) $$ Hb'; iintro Hb'
  iapply (wp_load_rect 𝒱₀ (c : Thread nD τ) none Set.univ (m := rbzM) (r := Rect.unit (s := S8x3x64x128) ![u.val, 2, 0, 0] S1x1x64x128.size (rbz_inb u 2))
    (S := (dstM (frm c u 4) u 4).view.set)
    (f := (dstM (frm c u 4) u 4).view.write (Elt F) fd'' ((srcM (frm c u 4) u 4).view.read (Elt F) (cont V0 (frm c u 4) u 4)) Finset.univ) (View.set_reshape _ _).ge) $$ Hb''; iintro Hb''
  iapply (wp_load_rect 𝒱₀ (c : Thread nD τ) none Set.univ (m := accM) (r := redR c u 2) (S := reg c u 5) (f := V2 V0 c u) hS) $$ Ha; iintro Ha
  iapply (wp_store 𝒱₀ (c : Thread nD τ) none Set.univ (m := accM) (r := redR c u 2) (Mk := Finset.univ) (S := reg c u 5) (f := V2 V0 c u) hS) $$ Ha; iintro Ha
  rw [wp_ret]; imodintro
  isplitl [Ha]
  · iapply (Entails.of_eq (pointsTo_congr (fun i hi => (acc_write (W := V3 V0 c u)
      (fun x => congrFun (pay7_eq _ _ _ _ (rbz0_read u (frm c u 2) fd _) (src2_read c u _) (rbz1_read u (frm c u 3) fd' _) (src3_read c u _)
        (rbz2_read u (frm c u 4) fd'' _) (src4_read c u _)) x) i (by rw [redR2_set]; exact hi)).trans (V3_final V0 c u i hi)))) $$ Ha
  isplitl [Hb]; · iexists _; iexact Hb
  isplitl [Hb']; · iexists _; iexact Hb'
  iexists _; iexact Hb''

/-- Elements of device `c`'s result. -/
def outL (c : Dev nD) (I : Finset S1024x1024.Idx) (f : FVec F S1024x1024 .f32) : sProp 𝕄 :=
  (c : Thread nD τ).loc cc0_stg2_0 ↦[I]{fullShare} f

theorem out_write {f : FVec F S1024x1024 .f32} : ∀ i ∈ cols u,
    ((outM.access (Rect.unit (s := S1024x1024) ![0, 128 * u.val] S1024x128.size (col_inb u)) : View sig .tc .vmem _ .f32).write (Elt F) f
      (k0_pay1 ((accM.access (Rect.unit (s := S1024x1024) ![0, 128 * u.val] S1024x128.size (col_inb u))).read (Elt F) (Wf V0 u))) Finset.univ) i = outV V0 i := by
  intro i hi
  have hu : colU i = u := Fin.ext (mem_cols.mp hi)
  rw [← colRect_set, ← Rect.map_emb_univ] at hi
  obtain ⟨x, -, rfl⟩ := Finset.mem_map.mp hi
  refine (View.write_emb_of_mem _ _ (Finset.mem_univ x)).trans ?_
  unfold outV
  show FloatOps.extf _ _ _ = FloatOps.extf _ _ _
  exact congrArg _ (congrFun (congrArg (Wf V0) hu.symm) _)

theorem out : T V0 K c iprop(accL c (cols u) fullShare (Wf V0 u) ∗ ∃ f, outL c (cols u) f) (outP u)
    iprop(accL c (cols u) fullShare (Wf V0 u) ∗ outL c (cols u) (outV V0)) := by
  unfold T WP outP Prog.lift
  simp only [Prog.bind_op, Prog.bind_ret]
  iintro ⟨-, Ha, ⟨%f, Ho⟩⟩
  unfold accL outL
  have hS := ((slice_whole_set (b := cc0_scratch0) (Rect.unit (s := S1024x1024) ![0, 128 * u.val] S1024x128.size (col_inb u))).trans (colRect_set u)).le
  have hO := ((slice_whole_set (b := cc0_stg2_0) (Rect.unit (s := S1024x1024) ![0, 128 * u.val] S1024x128.size (col_inb u))).trans (colRect_set u)).le
  iapply (wp_load_rect 𝒱₀ (c : Thread nD τ) none Set.univ (m := accM) (r := Rect.unit (s := S1024x1024) ![0, 128 * u.val] S1024x128.size (col_inb u))
    (S := cols u) (f := Wf V0 u) hS) $$ Ha; iintro Ha
  iapply (wp_load_rect 𝒱₀ (c : Thread nD τ) none Set.univ (m := outM) (r := Rect.unit (s := S1024x1024) ![0, 128 * u.val] S1024x128.size (col_inb u))
    (S := cols u) (f := f) hO) $$ Ho; iintro Ho
  iapply (wp_store 𝒱₀ (c : Thread nD τ) none Set.univ (m := outM) (r := Rect.unit (s := S1024x1024) ![0, 128 * u.val] S1024x128.size (col_inb u))
    (Mk := Finset.univ) (S := cols u) (f := f) hO) $$ Ho; iintro Ho
  rw [wp_ret]; imodintro
  isplitl [Ha]; · iexact Ha
  iapply (Entails.of_eq (pointsTo_congr (out_write V0 u))) $$ Ho

theorem hz : (![0, 0] : Fin 2 → Nat) = fun _ => 0 := funext fun a => by fin_cases a <;> rfl

theorem dot (X : FVec F S1024x64 .bf16) (W : FVec F S64x1024 .bf16) :
    T V0 K c iprop(((c : Thread nD τ).loc cc0_stg0_0 ↦{fullShare} X) ∗ ((c : Thread nD τ).loc cc0_stg1_0 ↦{fullShare} W) ∗ ∃ f, accL c Finset.univ fullShare f) dotP
    iprop(((c : Thread nD τ).loc cc0_stg0_0 ↦{fullShare} X) ∗ ((c : Thread nD τ).loc cc0_stg1_0 ↦{fullShare} W) ∗ accL c Finset.univ fullShare (k0_pay2 X W)) := by
  unfold T WP dotP Prog.lift
  simp only [Prog.bind_op, Prog.bind_ret]
  iintro ⟨-, Hx, Hw, ⟨%f, Ha⟩⟩
  unfold accL
  iapply (wp_load_rect 𝒱₀ (c : Thread nD τ) none Set.univ (m := xM) (r := Rect.unit (s := S1024x64) ![0, 0] S1024x64.size inb_S1024x64_S1024x64_0_0)
    (S := Finset.univ) (f := X) (Finset.subset_univ _)) $$ Hx; iintro Hx
  iapply (wp_load_rect 𝒱₀ (c : Thread nD τ) none Set.univ (m := wM) (r := Rect.unit (s := S64x1024) ![0, 0] S64x1024.size inb_S64x1024_S64x1024_0_0)
    (S := Finset.univ) (f := W) (Finset.subset_univ _)) $$ Hw; iintro Hw
  iapply (wp_load_rect 𝒱₀ (c : Thread nD τ) none Set.univ (m := accM) (r := Rect.unit (s := S1024x1024) ![0, 0] S1024x1024.size inb_S1024x1024_S1024x1024_0_0)
    (S := Finset.univ) (f := f) (Finset.subset_univ _)) $$ Ha; iintro Ha
  iapply (wp_store 𝒱₀ (c : Thread nD τ) none Set.univ (m := accM) (r := Rect.unit (s := S1024x1024) ![0, 0] S1024x1024.size inb_S1024x1024_S1024x1024_0_0)
    (Mk := Finset.univ) (S := Finset.univ) (f := f) (Finset.subset_univ _)) $$ Ha; iintro Ha
  rw [wp_ret]; imodintro
  isplitl [Hx]; · iexact Hx
  isplitl [Hw]; · iexact Hw
  iapply (Entails.of_eq (pointsTo_congr (fun i _ => congrFun ((Memref.write_access_unit_zero_univ (Elt F) cc0_scratch0 hz inb_S1024x1024_S1024x1024_0_0 f _).trans
    (congrArg₂ k0_pay2 (Memref.readAt_unit_zero (Elt F) cc0_stg0_0 hz inb_S1024x64_S1024x64_0_0 X) (Memref.readAt_unit_zero (Elt F) cc0_stg1_0 hz inb_S64x1024_S64x1024_0_0 W))) i))) $$ Ha

end Cert.KernelIdeal.K
-- ==== Proof.KernelIdeal.Pieces.lean ====
module

public import proofs.«01_k».proof.Proof.KernelIdeal.Compute

/-! # What a transfer hands over, in terms of the accumulator

A transfer into a receive buffer hands its source over with it: that is where the answer will land. A transfer into the
accumulator leaves the final values there. -/

@[expose] public section

set_option maxRecDepth 65536

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V0 : Dev nD → Acc F) (K : Dev nD × Cell → ℕ) (c : Dev nD) (u : Fin 8)

/-- The transfers from 5 on land where they were read. -/
theorem anyDst_ge (q : Dev nD) : ∀ s : Fin 10, 5 ≤ s.val → anyDst (F := F) c q u s = iprop(∃ f : Acc F, accL q (reg c u s) fullShare f)
  | ⟨5, h⟩, _ => by unfold anyDst accL; rw [← srcM_set]; rfl
  | ⟨6, h⟩, _ => by unfold anyDst accL; rw [← srcM_set]; rfl
  | ⟨7, h⟩, _ => by unfold anyDst accL; rw [← srcM_set]; rfl
  | ⟨8, h⟩, _ => by unfold anyDst accL; rw [← srcM_set]; rfl
  | ⟨9, h⟩, _ => by unfold anyDst accL; rw [← srcM_set]; rfl
  | ⟨0, _⟩, h | ⟨1, _⟩, h | ⟨2, _⟩, h | ⟨3, _⟩, h | ⟨4, _⟩, h => by simp at h
  | ⟨_ + 10, h⟩, _ => absurd h (by omega)

/-- They land on `r` with the final contents. -/
theorem filled_ge (q r : Dev nD) : ∀ s : Fin 10, 5 ≤ s.val → filled V0 q r u s
    = iprop(∃ f : Acc F, accL r (reg q u s) fullShare ((srcM q u s).view.write (Elt F) f ((srcM q u s).view.read (Elt F) (Wf V0 u)) Finset.univ))
  | ⟨5, h⟩, _ => by unfold filled accL; rw [← srcM_set]; rfl
  | ⟨6, h⟩, _ => by unfold filled accL; rw [← srcM_set]; rfl
  | ⟨7, h⟩, _ => by unfold filled accL; rw [← srcM_set]; rfl
  | ⟨8, h⟩, _ => by unfold filled accL; rw [← srcM_set]; rfl
  | ⟨9, h⟩, _ => by unfold filled accL; rw [← srcM_set]; rfl
  | ⟨0, _⟩, h | ⟨1, _⟩, h | ⟨2, _⟩, h | ⟨3, _⟩, h | ⟨4, _⟩, h => by simp at h
  | ⟨_ + 10, h⟩, _ => absurd h (by omega)

theorem landed (s : Fin 10) (h : 5 ≤ s.val) {I : Finset S1024x1024.Idx} (hI : reg (frm c u s) u s = I) :
    recvPay V0 c u s ⊢ accL c I fullShare (Wf V0 u) := by
  subst hI
  unfold recvPay
  rw [filled_ge V0 u _ _ s h, if_neg (by omega)]
  have key (f : Acc F) : (accL c (reg (frm c u s) u s) fullShare
      ((srcM (frm c u s) u s).view.write (Elt F) f ((srcM (frm c u s) u s).view.read (Elt F) (Wf V0 u)) Finset.univ) : sProp 𝕄)
      = accL c (reg (frm c u s) u s) fullShare (Wf V0 u) :=
    pointsTo_congr fun i hi => acc_write (W := Wf V0 u) (fun x => rfl) i (by rw [srcRect_set]; exact hi)
  iintro ⟨⟨%f, H⟩, -⟩
  iapply (Entails.of_eq (key f)) $$ H

/-- The source of what landed is the room for the answer, transfer `t`. -/
theorem given (s t : Fin 10) (h : s.val < 5) (ht : 5 ≤ t.val) (hp : frm c u s = peer c u t) (hr : reg (frm c u s) u s = reg c u t) :
    recvPay V0 c u s ⊢ iprop(filled V0 (frm c u s) c u s ∗ anyDst (F := F) c (peer c u t) u t) := by
  unfold recvPay
  rw [anyDst_ge c u _ t ht, if_pos h, hr, hp]
  iintro ⟨H, Ha⟩
  isplitl [H]; · iexact H
  iexists _; iexact Ha

theorem given0 : recvPay V0 c u 0 ⊢ iprop(filled V0 (frm c u 0) c u 0 ∗ anyDst (F := F) c (peer c u 9) u 9) :=
  given V0 c u 0 9 (by decide) (by decide) ((frm_0 c u).trans (peer_9 c u).symm) ((congrArg (fun q => reg q u 0) (frm_0 c u)).trans (reg_peer_0 c u))
theorem given1 : recvPay V0 c u 1 ⊢ iprop(filled V0 (frm c u 1) c u 1 ∗ anyDst (F := F) c (peer c u 8) u 8) :=
  given V0 c u 1 8 (by decide) (by decide) ((frm_1 c u).trans (peer_8 c u).symm) ((congrArg (fun q => reg q u 1) (frm_1 c u)).trans (reg_peer_1 c u))
theorem given2 : recvPay V0 c u 2 ⊢ iprop(filled V0 (frm c u 2) c u 2 ∗ anyDst (F := F) c (peer c u 7) u 7) :=
  given V0 c u 2 7 (by decide) (by decide) (frm_2 c u) ((reg_frm_2 c u).trans (reg_7 c u).symm)
theorem given3 : recvPay V0 c u 3 ⊢ iprop(filled V0 (frm c u 3) c u 3 ∗ anyDst (F := F) c (peer c u 6) u 6) :=
  given V0 c u 3 6 (by decide) (by decide) (frm_3 c u) ((reg_frm_3 c u).trans (reg_6 c u).symm)
theorem given4 : recvPay V0 c u 4 ⊢ iprop(filled V0 (frm c u 4) c u 4 ∗ anyDst (F := F) c (peer c u 5) u 5) :=
  given V0 c u 4 5 (by decide) (by decide) (frm_4 c u) (reg_frm_4 c u)

theorem frm_8 : frm c u 8 = peer c u 1 := peer_8 c u
theorem frm_9 : frm c u 9 = peer c u 0 := peer_9 c u
theorem landed5 : recvPay V0 c u 5 ⊢ accL c (reg c u 4) fullShare (Wf V0 u) := landed V0 c u 5 (by decide) (reg_frm_5 c u)
theorem landed6 : recvPay V0 c u 6 ⊢ accL c (reg c u 3) fullShare (Wf V0 u) := landed V0 c u 6 (by decide) (reg_frm_6 c u)
theorem landed7 : recvPay V0 c u 7 ⊢ accL c (reg c u 2) fullShare (Wf V0 u) := landed V0 c u 7 (by decide) (reg_frm_7 c u)
theorem landed8 : recvPay V0 c u 8 ⊢ accL c (reg c u 1) fullShare (Wf V0 u) :=
  landed V0 c u 8 (by decide) ((congrArg (fun q => reg q u 8) (frm_8 c u)).trans (reg_peer_8 c u))
theorem landed9 : recvPay V0 c u 9 ⊢ accL c (reg c u 0) fullShare (Wf V0 u) :=
  landed V0 c u 9 (by decide) ((congrArg (fun q => reg q u 9) (frm_9 c u)).trans (reg_peer_9 c u))

/-! ## Cutting and joining the accumulator -/

theorem acc_cols (f : Acc F) : (accL c (cols u) fullShare f : sProp 𝕄) ⊣⊢ iprop(accL c (reg c u 9) fullShare f ∗ accL c (reg c u 0) fullShare f) := by
  unfold accL; rw [cols_eq c u]; exact pointsTo_union (cols_disj c u)
theorem acc_9 (f : Acc F) : (accL c (reg c u 9) fullShare f : sProp 𝕄) ⊣⊢ iprop(accL c (reg c u 8) fullShare f ∗ accL c (reg c u 1) fullShare f) := by
  unfold accL; rw [reg_9 c u]; exact pointsTo_union (reg_9_disj c u)
theorem acc_8 (f : Acc F) : (accL c (reg c u 8) fullShare f : sProp 𝕄)
    ⊣⊢ iprop(accL c (reg c u 5) fullShare f ∗ accL c (reg c u 2) fullShare f ∗ accL c (reg c u 3) fullShare f ∗ accL c (reg c u 4) fullShare f) := by
  unfold accL; rw [reg_8 c u]
  exact (pointsTo_union (reg_5_disj c u)).trans (sep_congr_right ((pointsTo_union (reg_2_disj c u)).trans (sep_congr_right (pointsTo_union (reg_34_disj c u)))))
theorem acc_5 (f : Acc F) : (accL c (reg c u 5) fullShare f : sProp 𝕄)
    ⊣⊢ iprop(accL c (reg c u 5) (shr 5) f ∗ accL c (reg c u 6) (shr 6) f ∗ accL c (reg c u 7) (shr 7) f) := by
  unfold accL; rw [reg_6, reg_7]
  exact (pointsTo_share (PosShare.mem_left_op_right fullShare)).trans (sep_congr_right (pointsTo_share (PosShare.mem_left_op_right fullShare.right)))

end Cert.KernelIdeal.K
-- ==== Proof.KernelIdeal.Units.lean ====
module

public import proofs.«01_k».proof.Proof.KernelIdeal.Pieces

/-! # A unit's course

What a unit holds before each of its seven steps, and one triple per step. The transfers are taken in six groups: those
of group `k` are started by step `k` and waited for by step `k + 1`. -/

@[expose] public section

set_option maxRecDepth 65536

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V0 : Dev nD → Acc F) (K : Dev nD × Cell → ℕ) (c : Dev nD) (u : Fin 8)

/-- One thing for each transfer of a group. -/
def Gp (f : Fin 10 → sProp 𝕄) : ℕ → sProp 𝕄
  | 0 => f 0
  | 1 => f 1
  | 2 => iprop(f 2 ∗ f 3 ∗ f 4)
  | 3 => iprop(f 5 ∗ f 6 ∗ f 7)
  | 4 => f 8
  | 5 => f 9
  | _ => iprop(emp)
/-- The groups before the `k`-th. -/
def Gbef (f : Fin 10 → sProp 𝕄) : ℕ → sProp 𝕄
  | 0 => iprop(emp)
  | k + 1 => iprop(Gbef f k ∗ Gp f k)
/-- The last `n` groups. -/
def Gaft (f : Fin 10 → sProp 𝕄) : ℕ → sProp 𝕄
  | 0 => iprop(emp)
  | n + 1 => iprop(Gp f (5 - n) ∗ Gaft f n)

/-- The transfers that are over before step `k`, and those under way. -/
def Over (k : ℕ) : sProp 𝕄 := Gbef (Dn c u) (k - 1)
def Flight : ℕ → sProp 𝕄
  | 0 => iprop(emp)
  | k + 1 => Gp (Fly c u) k
/-- Room on the peer for transfer `s`, and this device's own receive buffer for it. -/
abbrev Rm (s : Fin 10) : sProp 𝕄 := anyDst (F := F) c (peer c u s) u s
abbrev Bf (s : Fin 10) : sProp 𝕄 := anyDst (F := F) c c u s
abbrev outA : sProp 𝕄 := iprop(∃ f, outL (F := F) c (cols u) f)
/-- The memory before step `k`. -/
def Mem : ℕ → sProp 𝕄
  | 0 => iprop(accL c (cols u) fullShare (V0 c) ∗ Rm (F := F) c u 0 ∗ Rm (F := F) c u 1 ∗ Rm (F := F) c u 2 ∗ Rm (F := F) c u 3 ∗ Rm (F := F) c u 4 ∗ outA (F := F) c u)
  | 1 => iprop(accL c (reg c u 9) fullShare (V0 c) ∗ Rm (F := F) c u 1 ∗ Rm (F := F) c u 2 ∗ Rm (F := F) c u 3 ∗ Rm (F := F) c u 4 ∗ outA (F := F) c u)
  | 2 => iprop(accL c (reg c u 8) fullShare (V1 V0 c u) ∗ Rm (F := F) c u 9 ∗ Bf (F := F) c u 0 ∗ Rm (F := F) c u 2 ∗ Rm (F := F) c u 3 ∗ Rm (F := F) c u 4 ∗ outA (F := F) c u)
  | 3 => iprop(accL c (reg c u 5) fullShare (V2 V0 c u) ∗ Rm (F := F) c u 9 ∗ Rm (F := F) c u 8 ∗ Bf (F := F) c u 0 ∗ Bf (F := F) c u 1 ∗ outA (F := F) c u)
  | 4 => iprop(Rm (F := F) c u 9 ∗ Rm (F := F) c u 8 ∗ Bf (F := F) c u 0 ∗ Bf (F := F) c u 1 ∗ Bf (F := F) c u 2 ∗ Bf (F := F) c u 3 ∗ Bf (F := F) c u 4 ∗ outA (F := F) c u)
  | 5 => iprop(Rm (F := F) c u 9 ∗ Bf (F := F) c u 0 ∗ Bf (F := F) c u 1 ∗ Bf (F := F) c u 2 ∗ Bf (F := F) c u 3 ∗ Bf (F := F) c u 4 ∗ outA (F := F) c u)
  | 6 => iprop(Bf (F := F) c u 0 ∗ Bf (F := F) c u 1 ∗ Bf (F := F) c u 2 ∗ Bf (F := F) c u 3 ∗ Bf (F := F) c u 4 ∗ outA (F := F) c u)
  | 7 => iprop(accL c (cols u) fullShare (Wf V0 u) ∗ outL c (cols u) (outV V0) ∗ Bf (F := F) c u 0 ∗ Bf (F := F) c u 1 ∗ Bf (F := F) c u 2 ∗ Bf (F := F) c u 3 ∗ Bf (F := F) c u 4)
  | _ => iprop(emp)
/-- All that a unit holds before step `k`. -/
def St (k : ℕ) : sProp 𝕄 := iprop(Over c u k ∗ Flight c u k ∗ Gaft (Pend c u) (6 - k) ∗ Mem V0 c u k)

/-! ## The steps -/

variable (O : CellTallies nD τ sig Unit)

/-- What step `k` does. -/
def Core (k : Fin 7) : Prop :=
  Above (1 + k.val + u.val % 4) (addOwed c u O k) →
  T V0 K c iprop(Flight c u k ∗ Gp (Pend c u) k ∗ Mem V0 c u k ∗ Ow c (addOwed c u O k)) (stepP c u k)
    iprop((if k.val = 0 then iprop(emp) else Gp (Dn c u) (k.val - 1)) ∗ Flight c u (k.val + 1) ∗ Mem V0 c u (k.val + 1) ∗ Ow c O)

theorem core0 : Core V0 K c u O 0 := fun hO => by
  show T V0 K c iprop(emp ∗ Pend c u 0 ∗ Mem V0 c u 0 ∗ Ow c (O + tl c u 0)) (issueP c u 0) iprop(emp ∗ Fly c u 0 ∗ Mem V0 c u 1 ∗ Ow c O)
  unfold T
  simp only [Mem]
  iintro ⟨#C, -, HP, ⟨Ha, R0, R1, R2, R3, R4, Ho⟩, HO⟩
  ihave Ha := (acc_cols c u (V0 c)).1 $$ Ha
  icases Ha with ⟨Ha, Hs⟩
  iapply (issue V0 K c u 0 O).last $$ [HP Hs R0 HO]
  · isplitr; · iexact C
    isplitl [HP]; · iexact HP
    isplitl [Hs]; · iexact Hs
    isplitl [R0]; · iexact R0
    iexact HO
  iintro ⟨HF, HO⟩
  isplitr; · iempintro
  isplitl [HF]; · iexact HF
  isplitr [HO]
  · isplitl [Ha]; · iexact Ha
    isplitl [R1]; · iexact R1
    isplitl [R2]; · iexact R2
    isplitl [R3]; · iexact R3
    isplitl [R4] <;> iassumption
  iexact HO

theorem core1 : Core V0 K c u O 1 := fun hO => by
  show T V0 K c iprop(Fly c u 0 ∗ Pend c u 1 ∗ Mem V0 c u 1 ∗ Ow c (O + tl c u 1)) (stepP c u 1) iprop(Dn c u 0 ∗ Fly c u 1 ∗ Mem V0 c u 2 ∗ Ow c O)
  unfold T
  simp only [Mem]
  iintro ⟨#C, HF, HP, ⟨Ha, R1, R2, R3, R4, Ho⟩, HO⟩
  iapply (waits V0 K c u 0 hO (by show _ ≤ _; exact le_refl _)).bind $$ [HF HO]
  · isplitr; · iexact C
    isplitl [HF]; · iexact HF
    iexact HO
  iintro ⟨HD, -, Hr, HO⟩
  ihave Hr := (given0 V0 c u) $$ Hr
  icases Hr with ⟨Hr, R9⟩
  iapply (red0 V0 K c u).bind $$ [Ha Hr]
  · isplitr; · iexact C
    isplitl [Ha] <;> iassumption
  iintro ⟨Ha, B0⟩
  ihave Ha := (acc_9 c u (V1 V0 c u)).1 $$ Ha
  icases Ha with ⟨Ha, Hs⟩
  iapply (issue V0 K c u 1 O).last $$ [HP Hs R1 HO]
  · isplitr; · iexact C
    isplitl [HP]; · iexact HP
    isplitl [Hs]; · iexact Hs
    isplitl [R1]; · iexact R1
    iexact HO
  iintro ⟨HF, HO⟩
  isplitl [HD]; · iexact HD
  isplitl [HF]; · iexact HF
  isplitr [HO]
  · isplitl [Ha]; · iexact Ha
    isplitl [R9]; · iexact R9
    isplitl [B0]; · iexact B0
    isplitl [R2]; · iexact R2
    isplitl [R3]; · iexact R3
    isplitl [R4] <;> iassumption
  iexact HO

theorem core2 : Core V0 K c u O 2 := fun hO => by
  show T V0 K c iprop(Fly c u 1 ∗ (Pend c u 2 ∗ Pend c u 3 ∗ Pend c u 4) ∗ Mem V0 c u 2 ∗ Ow c (O + tl c u 4 + tl c u 3 + tl c u 2)) (stepP c u 2)
    iprop(Dn c u 1 ∗ (Fly c u 2 ∗ Fly c u 3 ∗ Fly c u 4) ∗ Mem V0 c u 3 ∗ Ow c O)
  unfold T
  simp only [Mem]
  iintro ⟨#C, HF, ⟨P2, P3, P4⟩, ⟨Ha, R9, B0, R2, R3, R4, Ho⟩, HO⟩
  iapply (waits V0 K c u 1 hO (by show _ ≤ _; exact le_refl _)).bind $$ [HF HO]
  · isplitr; · iexact C
    isplitl [HF]; · iexact HF
    iexact HO
  iintro ⟨HD, -, Hr, HO⟩
  ihave Hr := (given1 V0 c u) $$ Hr
  icases Hr with ⟨Hr, R8⟩
  iapply (red1 V0 K c u).bind $$ [Ha Hr]
  · isplitr; · iexact C
    isplitl [Ha] <;> iassumption
  iintro ⟨Ha, B1⟩
  ihave Ha := (acc_8 c u (V2 V0 c u)).1 $$ Ha
  icases Ha with ⟨Ha, S2, S3, S4⟩
  iapply (issue V0 K c u 2 (O + tl c u 4 + tl c u 3)).bind $$ [P2 S2 R2 HO]
  · isplitr; · iexact C
    isplitl [P2]; · iexact P2
    isplitl [S2]; · iexact S2
    isplitl [R2]; · iexact R2
    iexact HO
  iintro ⟨F2, HO⟩
  iapply (issue V0 K c u 3 (O + tl c u 4)).bind $$ [P3 S3 R3 HO]
  · isplitr; · iexact C
    isplitl [P3]; · iexact P3
    isplitl [S3]; · iexact S3
    isplitl [R3]; · iexact R3
    iexact HO
  iintro ⟨F3, HO⟩
  iapply (issue V0 K c u 4 O).last $$ [P4 S4 R4 HO]
  · isplitr; · iexact C
    isplitl [P4]; · iexact P4
    isplitl [S4]; · iexact S4
    isplitl [R4]; · iexact R4
    iexact HO
  iintro ⟨F4, HO⟩
  isplitl [HD]; · iexact HD
  isplitl [F2 F3 F4]
  · isplitl [F2]; · iexact F2
    isplitl [F3] <;> iassumption
  isplitr [HO]
  · isplitl [Ha]; · iexact Ha
    isplitl [R9]; · iexact R9
    isplitl [R8]; · iexact R8
    isplitl [B0]; · iexact B0
    isplitl [B1] <;> iassumption
  iexact HO

theorem core3 : Core V0 K c u O 3 := fun hO => by
  show T V0 K c iprop((Fly c u 2 ∗ Fly c u 3 ∗ Fly c u 4) ∗ (Pend c u 5 ∗ Pend c u 6 ∗ Pend c u 7) ∗ Mem V0 c u 3 ∗ Ow c (O + tl c u 7 + tl c u 6 + tl c u 5)) (stepP c u 3)
    iprop((Dn c u 2 ∗ Dn c u 3 ∗ Dn c u 4) ∗ (Fly c u 5 ∗ Fly c u 6 ∗ Fly c u 7) ∗ Mem V0 c u 4 ∗ Ow c O)
  unfold T
  simp only [Mem]
  iintro ⟨#C, ⟨F2, F3, F4⟩, ⟨P5, P6, P7⟩, ⟨Ha, R9, R8, B0, B1, Ho⟩, HO⟩
  iapply (waits V0 K c u 2 hO (by show _ ≤ _; exact le_refl _)).bind $$ [F2 HO]
  · isplitr; · iexact C
    isplitl [F2]; · iexact F2
    iexact HO
  iintro ⟨D2, -, Hr2, HO⟩
  iapply (waits V0 K c u 3 hO (by show _ ≤ _; exact le_refl _)).bind $$ [F3 HO]
  · isplitr; · iexact C
    isplitl [F3]; · iexact F3
    iexact HO
  iintro ⟨D3, -, Hr3, HO⟩
  iapply (waits V0 K c u 4 hO (by show _ ≤ _; exact le_refl _)).bind $$ [F4 HO]
  · isplitr; · iexact C
    isplitl [F4]; · iexact F4
    iexact HO
  iintro ⟨D4, -, Hr4, HO⟩
  ihave Hr2 := (given2 V0 c u) $$ Hr2
  icases Hr2 with ⟨Hr2, R7⟩
  ihave Hr3 := (given3 V0 c u) $$ Hr3
  icases Hr3 with ⟨Hr3, R6⟩
  ihave Hr4 := (given4 V0 c u) $$ Hr4
  icases Hr4 with ⟨Hr4, R5⟩
  iapply (red2 V0 K c u).bind $$ [Ha Hr2 Hr3 Hr4]
  · isplitr; · iexact C
    isplitl [Ha]; · iexact Ha
    isplitl [Hr2]; · iexact Hr2
    isplitl [Hr3] <;> iassumption
  iintro ⟨Ha, B2, B3, B4⟩
  ihave Ha := (acc_5 c u (Wf V0 u)).1 $$ Ha
  icases Ha with ⟨S5, S6, S7⟩
  iapply (issue V0 K c u 5 (O + tl c u 7 + tl c u 6)).bind $$ [P5 S5 R5 HO]
  · isplitr; · iexact C
    isplitl [P5]; · iexact P5
    isplitl [S5]; · iexact S5
    isplitl [R5]; · iexact R5
    iexact HO
  iintro ⟨F5, HO⟩
  iapply (issue V0 K c u 6 (O + tl c u 7)).bind $$ [P6 S6 R6 HO]
  · isplitr; · iexact C
    isplitl [P6]; · iexact P6
    isplitl [S6]; · iexact S6
    isplitl [R6]; · iexact R6
    iexact HO
  iintro ⟨F6, HO⟩
  iapply (issue V0 K c u 7 O).last $$ [P7 S7 R7 HO]
  · isplitr; · iexact C
    isplitl [P7]; · iexact P7
    isplitl [S7]; · iexact S7
    isplitl [R7]; · iexact R7
    iexact HO
  iintro ⟨F7, HO⟩
  isplitl [D2 D3 D4]
  · isplitl [D2]; · iexact D2
    isplitl [D3] <;> iassumption
  isplitl [F5 F6 F7]
  · isplitl [F5]; · iexact F5
    isplitl [F6] <;> iassumption
  isplitr [HO]
  · isplitl [R9]; · iexact R9
    isplitl [R8]; · iexact R8
    isplitl [B0]; · iexact B0
    isplitl [B1]; · iexact B1
    isplitl [B2]; · iexact B2
    isplitl [B3]; · iexact B3
    isplitl [B4] <;> iassumption
  iexact HO

theorem core4 : Core V0 K c u O 4 := fun hO => by
  show T V0 K c iprop((Fly c u 5 ∗ Fly c u 6 ∗ Fly c u 7) ∗ Pend c u 8 ∗ Mem V0 c u 4 ∗ Ow c (O + tl c u 8)) (stepP c u 4)
    iprop((Dn c u 5 ∗ Dn c u 6 ∗ Dn c u 7) ∗ Fly c u 8 ∗ Mem V0 c u 5 ∗ Ow c O)
  unfold T
  simp only [Mem]
  iintro ⟨#C, ⟨F5, F6, F7⟩, HP, ⟨R9, R8, HB⟩, HO⟩
  iapply (waits V0 K c u 5 hO (by show _ ≤ _; exact le_refl _)).bind $$ [F5 HO]
  · isplitr; · iexact C
    isplitl [F5]; · iexact F5
    iexact HO
  iintro ⟨D5, S5, Hr5, HO⟩
  ihave S5 := (Entails.of_eq (sendPay_ge V0 c u 5 (by decide))) $$ S5
  iapply (waits V0 K c u 6 hO (by show _ ≤ _; exact le_refl _)).bind $$ [F6 HO]
  · isplitr; · iexact C
    isplitl [F6]; · iexact F6
    iexact HO
  iintro ⟨D6, S6, Hr6, HO⟩
  ihave S6 := (Entails.of_eq (sendPay_ge V0 c u 6 (by decide))) $$ S6
  iapply (waits V0 K c u 7 hO (by show _ ≤ _; exact le_refl _)).bind $$ [F7 HO]
  · isplitr; · iexact C
    isplitl [F7]; · iexact F7
    iexact HO
  iintro ⟨D7, S7, Hr7, HO⟩
  ihave S7 := (Entails.of_eq (sendPay_ge V0 c u 7 (by decide))) $$ S7
  ihave Hr5 := (landed5 V0 c u) $$ Hr5
  ihave Hr6 := (landed6 V0 c u) $$ Hr6
  ihave Hr7 := (landed7 V0 c u) $$ Hr7
  ihave Ha := (acc_5 c u (Wf V0 u)).2 $$ [S5 S6 S7]
  · isplitl [S5]; · iexact S5
    isplitl [S6]; · iexact S6
    iexact S7
  ihave Ha := (acc_8 c u (Wf V0 u)).2 $$ [Ha Hr5 Hr6 Hr7]
  · isplitl [Ha]; · iexact Ha
    isplitl [Hr7]; · iexact Hr7
    isplitl [Hr6] <;> iassumption
  iapply (issue V0 K c u 8 O).last $$ [HP Ha R8 HO]
  · isplitr; · iexact C
    isplitl [HP]; · iexact HP
    isplitl [Ha]; · iexact Ha
    isplitl [R8]; · iexact R8
    iexact HO
  iintro ⟨HF, HO⟩
  isplitl [D5 D6 D7]
  · isplitl [D5]; · iexact D5
    isplitl [D6] <;> iassumption
  isplitl [HF]; · iexact HF
  isplitr [HO]
  · isplitl [R9] <;> iassumption
  iexact HO

theorem core5 : Core V0 K c u O 5 := fun hO => by
  show T V0 K c iprop(Fly c u 8 ∗ Pend c u 9 ∗ Mem V0 c u 5 ∗ Ow c (O + tl c u 9)) (stepP c u 5) iprop(Dn c u 8 ∗ Fly c u 9 ∗ Mem V0 c u 6 ∗ Ow c O)
  unfold T
  simp only [Mem]
  iintro ⟨#C, HF, HP, ⟨R9, HB⟩, HO⟩
  iapply (waits V0 K c u 8 hO (by show _ ≤ _; exact le_refl _)).bind $$ [HF HO]
  · isplitr; · iexact C
    isplitl [HF]; · iexact HF
    iexact HO
  iintro ⟨HD, S8, Hr8, HO⟩
  ihave S8 := (Entails.of_eq (sendPay_ge V0 c u 8 (by decide))) $$ S8
  ihave Hr8 := (landed8 V0 c u) $$ Hr8
  ihave Ha := (acc_9 c u (Wf V0 u)).2 $$ [S8 Hr8]
  · isplitl [S8]; · iexact S8
    iexact Hr8
  iapply (issue V0 K c u 9 O).last $$ [HP Ha R9 HO]
  · isplitr; · iexact C
    isplitl [HP]; · iexact HP
    isplitl [Ha]; · iexact Ha
    isplitl [R9]; · iexact R9
    iexact HO
  iintro ⟨HF, HO⟩
  isplitl [HD]; · iexact HD
  isplitl [HF]; · iexact HF
  isplitl [HB] <;> iassumption

theorem core6 : Core V0 K c u O 6 := fun hO => by
  show T V0 K c iprop(Fly c u 9 ∗ emp ∗ Mem V0 c u 6 ∗ Ow c O) (stepP c u 6) iprop(Dn c u 9 ∗ emp ∗ Mem V0 c u 7 ∗ Ow c O)
  unfold T
  simp only [Mem]
  iintro ⟨#C, HF, -, ⟨B0, B1, B2, B3, B4, Ho⟩, HO⟩
  iapply (waits V0 K c u 9 hO (by show _ ≤ _; exact le_refl _)).bind $$ [HF HO]
  · isplitr; · iexact C
    isplitl [HF]; · iexact HF
    iexact HO
  iintro ⟨HD, S9, Hr9, HO⟩
  ihave S9 := (Entails.of_eq (sendPay_ge V0 c u 9 (by decide))) $$ S9
  ihave Hr9 := (landed9 V0 c u) $$ Hr9
  ihave Ha := (acc_cols c u (Wf V0 u)).2 $$ [S9 Hr9]
  · isplitl [S9]; · iexact S9
    iexact Hr9
  iapply (out V0 K c u).last $$ [Ha Ho]
  · isplitr; · iexact C
    isplitl [Ha] <;> iassumption
  iintro ⟨Ha, Ho⟩
  isplitl [HD]; · iexact HD
  isplitr; · iempintro
  isplitr [HO]
  · isplitl [Ha]; · iexact Ha
    isplitl [Ho]; · iexact Ho
    isplitl [B0]; · iexact B0
    isplitl [B1]; · iexact B1
    isplitl [B2]; · iexact B2
    isplitl [B3] <;> iassumption
  iexact HO

theorem core : ∀ k : Fin 7, Core V0 K c u O k
  | ⟨0, _⟩ => core0 V0 K c u O | ⟨1, _⟩ => core1 V0 K c u O | ⟨2, _⟩ => core2 V0 K c u O | ⟨3, _⟩ => core3 V0 K c u O
  | ⟨4, _⟩ => core4 V0 K c u O | ⟨5, _⟩ => core5 V0 K c u O | ⟨6, _⟩ => core6 V0 K c u O
  | ⟨_ + 7, h⟩ => absurd h (by omega)

/-- The groups from the `k`-th on begin with it. -/
theorem aft_split (f : Fin 10 → sProp 𝕄) : ∀ k : Fin 7, Gaft f (6 - k.val) ⊢ iprop(Gp f k ∗ Gaft f (6 - (k.val + 1)))
  | ⟨0, _⟩ => .rfl | ⟨1, _⟩ => .rfl | ⟨2, _⟩ => .rfl | ⟨3, _⟩ => .rfl | ⟨4, _⟩ => .rfl | ⟨5, _⟩ => .rfl
  | ⟨6, _⟩ => by show (iprop(emp) : sProp 𝕄) ⊢ iprop(emp ∗ emp); iintro -; isplitr <;> iempintro
  | ⟨_ + 7, h⟩ => absurd h (by omega)
/-- Those that are over, and one more. -/
theorem over_join : ∀ k : Fin 7, iprop(Over c u k ∗ (if k.val = 0 then iprop(emp) else Gp (Dn c u) (k.val - 1))) ⊢ Over (F := F) c u (k.val + 1)
  | ⟨0, _⟩ => by show iprop(emp ∗ emp) ⊢ (iprop(emp) : sProp 𝕄); iintro -; iempintro
  | ⟨1, _⟩ => .rfl | ⟨2, _⟩ => .rfl | ⟨3, _⟩ => .rfl | ⟨4, _⟩ => .rfl | ⟨5, _⟩ => .rfl | ⟨6, _⟩ => .rfl
  | ⟨_ + 7, h⟩ => absurd h (by omega)

/-- A unit's step. -/
theorem step (k : Fin 7) (hO : Above (1 + k.val + u.val % 4) (addOwed c u O k)) :
    T V0 K c iprop(St V0 c u k ∗ Ow c (addOwed c u O k)) (stepP c u k) iprop(St V0 c u (k.val + 1) ∗ Ow c O) := by
  refine ((core V0 K c u O k hO).frame iprop(Over c u k ∗ Gaft (Pend c u) (6 - (k.val + 1)))).conseq ?_ ?_
  · unfold St
    iintro ⟨⟨H1, H2, H3, H4⟩, HO⟩
    ihave H3 := (aft_split (Pend c u) k) $$ H3
    icases H3 with ⟨H3, H5⟩
    isplitr [H1 H5]
    · isplitl [H2]; · iexact H2
      isplitl [H3]; · iexact H3
      isplitl [H4] <;> iassumption
    isplitl [H1] <;> iassumption
  · unfold St
    iintro ⟨⟨H1, H2, H3, HO⟩, H4, H5⟩
    ihave H1 := (over_join c u k) $$ [H4 H1]
    · isplitl [H4] <;> iassumption
    isplitr [HO]
    · isplitl [H1]; · iexact H1
      isplitl [H2]; · iexact H2
      isplitl [H5] <;> iassumption
    iexact HO

end Cert.KernelIdeal.K
-- ==== Proof.KernelIdeal.Course.lean ====
module

public import proofs.«01_k».proof.Proof.KernelIdeal.Units

/-! # All units together: the schedule, and the barrier handshake before it -/

@[expose] public section

set_option maxRecDepth 65536

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V0 : Dev nD → Acc F) (K : Dev nD × Cell → ℕ) (c : Dev nD)

omit V0 K in
theorem T.run {V0 : Dev nD → Acc F} {K : Dev nD × Cell → ℕ} {c : Dev nD} {P Q : sProp 𝕄} {a : PB F PUnit} (h : T V0 K c P a Q) :
    iprop(ctx V0 K ∗ P) ⊢ WP c a fun _ => Q := h

/-! ## The schedule -/

/-- The steps of a list are taken in each unit's own order, and each waits only below what is still owed. -/
def Fits (p : Fin 8 → ℕ) : List (Fin 8 × Fin 7) → Prop
  | [] => ∀ u, p u = 7
  | (u, k) :: l => p u = k.val ∧ ListAbove (1 + k.val + u.val % 4) ((u, k) :: l) ∧ Fits (Function.update p u (k.val + 1)) l

instance Fits.dec : ∀ p l, Decidable (Fits p l)
  | p, [] => by unfold Fits; infer_instance
  | p, (u, k) :: l => by
    unfold Fits
    have := Fits.dec (Function.update p u (k.val + 1)) l
    infer_instance

theorem sched_fits : Fits (fun _ => 0) sched := by decide +kernel

theorem runs_fit : ∀ (l : List (Fin 8 × Fin 7)) (p : Fin 8 → ℕ), Fits p l →
    T V0 K c iprop((bigSep Finset.univ fun u => St V0 c u (p u)) ∗ Ow c (owedL c l)) (runs c l)
      iprop((bigSep Finset.univ fun u => St V0 c u 7) ∗ Ow c 0)
  | [], p, h => by
    unfold T WP runs owedL
    rw [Prog.pure_eq_ret, wp_ret]
    iintro ⟨-, H, HO⟩
    imodintro
    isplitl [H]
    · iapply (Entails.of_eq (BI.bigSep_congr (s := Finset.univ) fun u _ => (congrArg (fun k => St V0 c u k) (h u) : St V0 c u (p u) = St V0 c u 7))) $$ H
    iexact HO
  | (u, k) :: l, p, h => by
    obtain ⟨hp, hA, hl⟩ := h
    unfold T
    iintro ⟨#C, H, HO⟩
    ihave H := (BI.bigSep_univ_turn (fun u k => St V0 c u k) p u) $$ H
    icases H with ⟨H, Hback⟩
    rw [hp]
    iapply (step V0 K c u (owedL c l) k (owedL_above (l := (u, k) :: l) hA)).bind $$ [H HO]
    · isplitr; · iexact C
      isplitl [H]; · iexact H
      iexact HO
    iintro ⟨H, HO⟩
    ihave H := Hback $$ %(k.val + 1) H
    iapply (runs_fit l _ hl).run
    isplitr; · iexact C
    isplitl [H]; · iexact H
    iexact HO

/-! ## The handshake -/

theorem signal (d : D) (O : CellTallies nD τ sig Unit) :
    T V0 K c iprop(dutyTok ER (barC (sigDev c d)) 0 d ∗ barPay (F := F) (sigDev c d) d ∗ Ow c (O + tb c d)) (semSignalWord (sigDev c d) barS 1#32) (Ow c O) := by
  unfold T WP Ow
  simp only [semSignalWord, Prog.lift, Prog.bind_op, Prog.bind_ret]
  iintro ⟨#C, Ht, Hp, ⟨%W, HO⟩⟩
  iapply (Rounds.wp_signal 𝒱₀ ER (Rd V0) (c : Thread nD τ) none (dst := (sigDev c d : Thread nD τ)) (κ := K (sigDev c d, none))
      (d := d) (by rw [duties_bar]; exact Finset.mem_univ _) ((amount_bar V0 (sigDev c d) d).trans (by decide)) () O rfl) $$ [HO Ht Hp]
  · isplitr; · iapply (ctx_inv V0 K (sigDev c d, none)); iexact C
    isplitl [HO]; · iexact HO
    isplitl [Ht]; · iexact Ht
    isplitl [Hp]; · rw [payload_bar]; iexact Hp
    iapply (ctx_reached V0 K (sigDev c d, none)); iexact C
  iintro HO
  rw [wp_ret]; imodintro
  iexists W; iexact HO

theorem barWait {O : CellTallies nD τ sig Unit} (hO : Above 1 O) :
    T V0 K c iprop(atPos ER (barC c) 0 ∅ 0 ∗ cred (tallyAt (barC c) () 5) ∗ Ow c O) (semWaitWord barS 5#32)
      iprop(semVal (barC c) 0 ∗ (bigSep Finset.univ fun d : D => barPay (F := F) c d) ∗ Ow c O) := by
  unfold T WP Ow
  simp only [semWaitWord, Prog.lift, Prog.bind_op, Prog.bind_ret]
  iintro ⟨#C, Ha, Hc, ⟨%W, HO⟩⟩
  iapply (Rounds.wp_wait_rest_token 𝒱₀ ER (Rd V0) (c : Thread nD τ) none (κ := K (c, none))
      (wpE_semWait_eq 𝒱₀ (c : Thread nD τ) none Set.univ) (Set.mem_univ _) () (O := O) (W := W) (R := 0) (m := 0) (T := ∅)
      (by rw [expect_bar]; decide)) $$ [Hc HO Ha]
  · isplitr; · iapply (ctx_inv V0 K (c, none)); iexact C
    isplitl [Hc]; · iexact Hc
    isplitl [HO]; · iexact HO
    isplitr; · iapply (hO.mayWait (c := c) (sm := .reg barS) (by rw [lv_bar])); iapply (ctx_lev V0 K); iexact C
    iexact Ha
  iintro ⟨HO, Ha, -, Hpay⟩
  ihave Hp := (Entails.of_eq (rest_bar V0 c)) $$ Hpay
  imod (Rounds.cell_close ER (Rd V0) (Set.mem_univ (K (c, none))) (fun h => h) (R := 0 + 1) (duties_later V0 (barC c))) $$ [Ha] with Hz
  · isplitr; · iapply (ctx_inv V0 K (c, none)); iexact C
    iexact Ha
  rw [wp_ret]; imodintro
  isplitl [Hz]; · iexact Hz
  isplitl [Hp]; · iexact Hp
  iexists _; iexact HO

theorem sched_above : ListAbove 1 sched := by decide +kernel

/-- What a device brings to signal `d`. -/
abbrev SigIn (d : D) : sProp 𝕄 := iprop(dutyTok ER (barC (sigDev c d)) 0 d ∗ barPay (F := F) (sigDev c d) d)

theorem bar : T V0 K c iprop((SigIn (F := F) c 0 ∗ SigIn (F := F) c 1 ∗ SigIn (F := F) c 2 ∗ SigIn (F := F) c 3 ∗ SigIn (F := F) c 4)
      ∗ atPos ER (barC c) 0 ∅ 0 ∗ cred (tallyAt (barC c) () 5) ∗ Ow c (O₀ c)) (barP c)
    iprop(semVal (barC c) 0 ∗ (bigSep Finset.univ fun d : D => barPay (F := F) c d) ∗ Ow c (owedL c sched)) := by
  unfold T barP O₀
  iintro ⟨#C, ⟨⟨T0, P0⟩, ⟨T1, P1⟩, ⟨T2, P2⟩, ⟨T3, P3⟩, ⟨T4, P4⟩⟩, Ha, Hc, HO⟩
  iapply (signal V0 K c 0 _).bind $$ [T0 P0 HO]
  · isplitr; · iexact C
    isplitl [T0]; · iexact T0
    isplitl [P0]; · iexact P0
    iexact HO
  iintro HO
  iapply (signal V0 K c 1 _).bind $$ [T1 P1 HO]
  · isplitr; · iexact C
    isplitl [T1]; · iexact T1
    isplitl [P1]; · iexact P1
    iexact HO
  iintro HO
  iapply (signal V0 K c 2 _).bind $$ [T2 P2 HO]
  · isplitr; · iexact C
    isplitl [T2]; · iexact T2
    isplitl [P2]; · iexact P2
    iexact HO
  iintro HO
  iapply (signal V0 K c 3 _).bind $$ [T3 P3 HO]
  · isplitr; · iexact C
    isplitl [T3]; · iexact T3
    isplitl [P3]; · iexact P3
    iexact HO
  iintro HO
  iapply (signal V0 K c 4 _).bind $$ [T4 P4 HO]
  · isplitr; · iexact C
    isplitl [T4]; · iexact T4
    isplitl [P4]; · iexact P4
    iexact HO
  iintro HO
  iapply (barWait V0 K c (O := owedL c sched) (owedL_above sched_above)).run
  isplitr; · iexact C
  isplitl [Ha]; · iexact Ha
  isplitl [Hc]; · iexact Hc
  iexact HO

/-! ## Dealing the receive buffers over the signals -/

theorem bigSep_pick {A : Type} [Fintype A] [DecidableEq A] (a : A) (P : sProp 𝕄) :
    (bigSep Finset.univ fun d : A => if a = d then P else iprop(emp)) = P := by
  rw [BI.bigSep_univ_at (fun d : A => if a = d then P else iprop(emp)) a, if_pos rfl,
    BI.bigSep_congr (Ψ := fun _ => iprop(emp)) fun d hd => if_neg (Finset.ne_of_mem_erase hd).symm]
  exact (congrArg (fun X : sProp 𝕄 => iprop(P ∗ X)) (BI.bigSep_emp_const _)).trans (equiv_iff.mp sep_emp)

theorem bigSep_dealt {A B : Type} [Fintype A] [Fintype B] [DecidableEq A] (f : B → A) (G : B → sProp 𝕄) :
    (bigSep Finset.univ fun d : A => bigSep Finset.univ fun b : B => if f b = d then G b else iprop(emp)) = bigSep Finset.univ G := by
  rw [BI.bigSep_univ_comm]
  exact BI.bigSep_congr fun b _ => bigSep_pick (f b) (G b)

/-- A receive buffer is the same whoever sends into it. -/
theorem anyDst_lt (q q' r : Dev nD) (u : Fin 8) : ∀ s : Fin 5, anyDst (F := F) q r u (lift5 s) = anyDst q' r u (lift5 s)
  | ⟨0, _⟩ => rfl | ⟨1, _⟩ => rfl | ⟨2, _⟩ => rfl | ⟨3, _⟩ => rfl | ⟨4, _⟩ => rfl
  | ⟨_ + 5, h⟩ => absurd h (by omega)

theorem bufs_out : (bigSep Finset.univ fun us : Fin 8 × Fin 5 => Bf (F := F) c us.1 (lift5 us.2))
    = bigSep Finset.univ fun d : D => barPay (F := F) (sigDev c d) d := by
  rw [← bigSep_dealt (fun us : Fin 8 × Fin 5 => dirOf us.1 us.2)]
  refine BI.bigSep_congr fun d _ => ?_
  unfold barPay
  refine BI.bigSep_congr fun us _ => ?_
  by_cases h : dirOf us.1 us.2 = d
  · rw [if_pos h, if_pos h, ← h, sigDev_dirOf, peer_frm]
    exact anyDst_lt _ _ _ _ _
  · rw [if_neg h, if_neg h]

theorem rooms_in : (bigSep Finset.univ fun d : D => barPay (F := F) c d)
    = bigSep Finset.univ fun us : Fin 8 × Fin 5 => Rm (F := F) c us.1 (lift5 us.2) :=
  bigSep_dealt (fun us : Fin 8 × Fin 5 => dirOf us.1 us.2) _

theorem bigSep_five (Φ : Fin 5 → sProp 𝕄) : bigSep Finset.univ Φ = iprop(Φ 0 ∗ Φ 1 ∗ Φ 2 ∗ Φ 3 ∗ Φ 4) := by
  rw [BI.bigSep_univ_eq_bigSepL [0, 1, 2, 3, 4] (by decide) (by decide)]
  rfl

end Cert.KernelIdeal.K
-- ==== Proof.KernelIdeal.Buffers.lean ====
module

public import proofs.«01_k».proof.Proof.KernelIdeal.Course

/-! # The whole buffers as the pieces that the units hold -/

@[expose] public section

set_option maxRecDepth 65536

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V0 : Dev nD → Acc F) (K : Dev nD × Cell → ℕ) (c : Dev nD)

/-! ## Cutting a buffer, and joining it -/

/-- A buffer is its pieces. -/
theorem cut {A : Type} [Fintype A] {ℓ : Loc nD τ sig} (S : A → Finset (Idx ℓ)) (hd : ∀ a b, a ≠ b → Disjoint (S a) (S b)) (hc : ∀ i, ∃ a, i ∈ S a)
    (f : Buf (Elt F) ℓ) : ((ℓ ↦{fullShare} f : sProp 𝕄)) = bigSep Finset.univ fun a => ℓ ↦[S a]{fullShare} f := by
  rw [← pointsTo_biUnion Finset.univ S fun a _ b _ h => hd a b h]
  congr 1
  ext i; simp [hc i]

/-- Pieces with any contents are a buffer with some contents. -/
theorem join {A : Type} [Fintype A] [DecidableEq A] {ℓ : Loc nD τ sig} [Nonempty (Buf (Elt F) ℓ)] (S : A → Finset (Idx ℓ)) (hd : ∀ a b, a ≠ b → Disjoint (S a) (S b))
    (hc : ∀ i, ∃ a, i ∈ S a) : (bigSep Finset.univ fun a => iprop(∃ f, ℓ ↦[S a]{fullShare} f)) ⊢ (iprop(∃ f, ℓ ↦{fullShare} f) : sProp 𝕄) := by
  refine (BI.bigSep_exists_pi Finset.univ (fun a (f : Buf (Elt F) ℓ) => (ℓ ↦[S a]{fullShare} f : sProp 𝕄))).trans ?_
  iintro ⟨%fs, H⟩
  ihave H := (pointsTo_biUnion_join Finset.univ S fs (Classical.arbitrary _) fun a _ b _ h => hd a b h) $$ H
  icases H with ⟨%g, -, H⟩
  iexists g
  have e : Finset.univ.biUnion S = Finset.univ := by ext i; simp [hc i]
  iapply (Entails.of_eq (congrArg (fun I => (ℓ ↦[I]{fullShare} g : sProp 𝕄)) e)) $$ H

/-! ## The pieces -/

theorem mem_cols_iff {u : Fin 8} {i : S1024x1024.Idx} : i ∈ cols u ↔ colU i = u := by rw [mem_cols, Fin.ext_iff]
theorem cols_cover (i : S1024x1024.Idx) : ∃ u, i ∈ cols u := ⟨colU i, mem_cols_iff.mpr rfl⟩
theorem cols_apart (u v : Fin 8) (h : u ≠ v) : Disjoint (cols u) (cols v) :=
  Finset.disjoint_left.mpr fun i hi hj => h ((mem_cols_iff.mp hi).symm.trans (mem_cols_iff.mp hj))

/-- The pieces of receive buffer 0. -/
def dstA (u : Fin 8) : Finset S8x512x128.Idx := (Rect.unit (s := S8x512x128) ![u.val, 0, 0] S1x512x128.size (rb0_inb u)).set
theorem dstA_mem {u : Fin 8} {i : S8x512x128.Idx} : i ∈ dstA u ↔ (i 0).val = u.val := by
  unfold dstA
  rw [Rect.mem_set_unit]
  have h1 : (i 1).val < 512 := (i 1).isLt
  have h2 : (i 2).val < 128 := (i 2).isLt
  constructor
  · intro h; have : u.val ≤ (i 0).val ∧ (i 0).val < u.val + 1 := h 0; omega
  · intro h a
    fin_cases a
    · show u.val ≤ (i 0).val ∧ (i 0).val < u.val + 1; omega
    · show 0 ≤ (i 1).val ∧ (i 1).val < 0 + 512; omega
    · show 0 ≤ (i 2).val ∧ (i 2).val < 0 + 128; omega
theorem dstA_apart (u v : Fin 8) (h : u ≠ v) : Disjoint (dstA u) (dstA v) :=
  Finset.disjoint_left.mpr fun i hi hj => h (Fin.ext ((dstA_mem.mp hi).symm.trans (dstA_mem.mp hj)))
theorem dstA_cover (i : S8x512x128.Idx) : ∃ u, i ∈ dstA u := ⟨⟨(i 0).val, (i 0).isLt⟩, dstA_mem.mpr rfl⟩

/-- The pieces of receive buffer 1. -/
def dstB (u : Fin 8) : Finset S8x256x128.Idx := (Rect.unit (s := S8x256x128) ![u.val, 0, 0] S1x256x128.size (rb1_inb u)).set
theorem dstB_mem {u : Fin 8} {i : S8x256x128.Idx} : i ∈ dstB u ↔ (i 0).val = u.val := by
  unfold dstB
  rw [Rect.mem_set_unit]
  have h1 : (i 1).val < 256 := (i 1).isLt
  have h2 : (i 2).val < 128 := (i 2).isLt
  constructor
  · intro h; have : u.val ≤ (i 0).val ∧ (i 0).val < u.val + 1 := h 0; omega
  · intro h a
    fin_cases a
    · show u.val ≤ (i 0).val ∧ (i 0).val < u.val + 1; omega
    · show 0 ≤ (i 1).val ∧ (i 1).val < 0 + 256; omega
    · show 0 ≤ (i 2).val ∧ (i 2).val < 0 + 128; omega
theorem dstB_apart (u v : Fin 8) (h : u ≠ v) : Disjoint (dstB u) (dstB v) :=
  Finset.disjoint_left.mpr fun i hi hj => h (Fin.ext ((dstB_mem.mp hi).symm.trans (dstB_mem.mp hj)))
theorem dstB_cover (i : S8x256x128.Idx) : ∃ u, i ∈ dstB u := ⟨⟨(i 0).val, (i 0).isLt⟩, dstB_mem.mpr rfl⟩

/-- The pieces of the third receive buffer. -/
def dstZ (u : Fin 8) (d : Fin 3) : Finset S8x3x64x128.Idx := (Rect.unit (s := S8x3x64x128) ![u.val, d.val, 0, 0] S1x1x64x128.size (rbz_inb u d)).set
theorem dstZ_mem {u : Fin 8} {d : Fin 3} {i : S8x3x64x128.Idx} : i ∈ dstZ u d ↔ (i 0).val = u.val ∧ (i 1).val = d.val := by
  unfold dstZ
  rw [Rect.mem_set_unit]
  have h1 : (i 2).val < 64 := (i 2).isLt
  have h2 : (i 3).val < 128 := (i 3).isLt
  constructor
  · intro h
    have a0 : u.val ≤ (i 0).val ∧ (i 0).val < u.val + 1 := h 0
    have a1 : d.val ≤ (i 1).val ∧ (i 1).val < d.val + 1 := h 1
    omega
  · intro h a
    fin_cases a
    · show u.val ≤ (i 0).val ∧ (i 0).val < u.val + 1; omega
    · show d.val ≤ (i 1).val ∧ (i 1).val < d.val + 1; omega
    · show 0 ≤ (i 2).val ∧ (i 2).val < 0 + 64; omega
    · show 0 ≤ (i 3).val ∧ (i 3).val < 0 + 128; omega
theorem dstZ_apart (u v : Fin 8 × Fin 3) (h : u ≠ v) : Disjoint (dstZ u.1 u.2) (dstZ v.1 v.2) :=
  Finset.disjoint_left.mpr fun i hi hj => h (Prod.ext (Fin.ext ((dstZ_mem.mp hi).1.symm.trans (dstZ_mem.mp hj).1))
    (Fin.ext ((dstZ_mem.mp hi).2.symm.trans (dstZ_mem.mp hj).2)))
theorem dstZ_cover (i : S8x3x64x128.Idx) : ∃ u : Fin 8 × Fin 3, i ∈ dstZ u.1 u.2 :=
  ⟨(⟨(i 0).val, (i 0).isLt⟩, ⟨(i 1).val, (i 1).isLt⟩), dstZ_mem.mpr ⟨rfl, rfl⟩⟩
theorem dst0_set (u : Fin 8) : (dstM c u 0).view.set = dstA u := (View.set_reshape _ _).trans (slice_whole_set (b := cc0_scratch1) _)
theorem dst1_set (u : Fin 8) : (dstM c u 1).view.set = dstB u := (View.set_reshape _ _).trans (slice_whole_set (b := cc0_scratch2) _)
theorem dst2_set (u : Fin 8) : (dstM c u 2).view.set = dstZ u 0 := (View.set_reshape _ _).trans (slice_whole_set (b := cc0_scratch3) _)
theorem dst3_set (u : Fin 8) : (dstM c u 3).view.set = dstZ u 1 := (View.set_reshape _ _).trans (slice_whole_set (b := cc0_scratch3) _)
theorem dst4_set (u : Fin 8) : (dstM c u 4).view.set = dstZ u 2 := (View.set_reshape _ _).trans (slice_whole_set (b := cc0_scratch3) _)

/-- A piece of the first receive buffer, and of the second. -/
def BfA (u : Fin 8) : sProp 𝕄 := iprop(∃ f, (c : Thread nD τ).loc cc0_scratch1 ↦[dstA u]{fullShare} f)
def BfB (u : Fin 8) : sProp 𝕄 := iprop(∃ f, (c : Thread nD τ).loc cc0_scratch2 ↦[dstB u]{fullShare} f)
theorem Bf0 (u : Fin 8) : Bf (F := F) c u 0 = BfA c u := by unfold Bf anyDst BfA; rw [dst0_set]; rfl
theorem Bf1 (u : Fin 8) : Bf (F := F) c u 1 = BfB c u := by unfold Bf anyDst BfB; rw [dst1_set]; rfl
/-- A piece of the third receive buffer. -/
def BfZ (u : Fin 8) (d : Fin 3) : sProp 𝕄 := iprop(∃ f, (c : Thread nD τ).loc cc0_scratch3 ↦[dstZ u d]{fullShare} f)
theorem Bf2 (u : Fin 8) : Bf (F := F) c u 2 = BfZ c u 0 := by unfold Bf anyDst BfZ; rw [dst2_set]; rfl
theorem Bf3 (u : Fin 8) : Bf (F := F) c u 3 = BfZ c u 1 := by unfold Bf anyDst BfZ; rw [dst3_set]; rfl
theorem Bf4 (u : Fin 8) : Bf (F := F) c u 4 = BfZ c u 2 := by unfold Bf anyDst BfZ; rw [dst4_set]; rfl

/-- The receive buffers, whole, and as pieces. -/
def Whole : sProp 𝕄 := iprop((∃ f, (c : Thread nD τ).loc cc0_scratch1 ↦{fullShare} f) ∗ (∃ f, (c : Thread nD τ).loc cc0_scratch2 ↦{fullShare} f)
  ∗ (∃ f, (c : Thread nD τ).loc cc0_scratch3 ↦{fullShare} f))
def Bufs (u : Fin 8) : sProp 𝕄 := iprop(Bf (F := F) c u 0 ∗ Bf (F := F) c u 1 ∗ Bf (F := F) c u 2 ∗ Bf (F := F) c u 3 ∗ Bf (F := F) c u 4)

theorem bufs_parts : (bigSep Finset.univ fun u => Bufs (F := F) c u)
    = iprop((bigSep Finset.univ fun u => BfA (F := F) c u) ∗ (bigSep Finset.univ fun u => BfB (F := F) c u)
      ∗ bigSep Finset.univ fun ud : Fin 8 × Fin 3 => BfZ (F := F) c ud.1 ud.2) := by
  unfold Bufs
  rw [BI.bigSep_univ_prod]
  have e (u : Fin 8) : (bigSep Finset.univ fun d : Fin 3 => BfZ (F := F) c u d) = iprop(Bf (F := F) c u 2 ∗ Bf (F := F) c u 3 ∗ Bf (F := F) c u 4) := by
    rw [Bf2, Bf3, Bf4, BI.bigSep_univ_eq_bigSepL [0, 1, 2] (by decide) (by decide)]; rfl
  rw [BI.bigSep_congr (s := Finset.univ) fun u _ => e u, ← bigSep_sep', ← bigSep_sep']
  exact BI.bigSep_congr fun u _ => by rw [Bf0, Bf1]

theorem cut_any {A : Type} [Fintype A] {ℓ : Loc nD τ sig} (S : A → Finset (Idx ℓ)) (hd : ∀ a b, a ≠ b → Disjoint (S a) (S b)) (hc : ∀ i, ∃ a, i ∈ S a) :
    (iprop(∃ f, ℓ ↦{fullShare} f) : sProp 𝕄) ⊢ bigSep Finset.univ fun a => iprop(∃ f : Buf (Elt F) ℓ, ℓ ↦[S a]{fullShare} f) := by
  have h (f : Buf (Elt F) ℓ) : (bigSep Finset.univ fun a => (ℓ ↦[S a]{fullShare} f : sProp 𝕄)) ⊢ bigSep Finset.univ fun a => iprop(∃ f : Buf (Elt F) ℓ, ℓ ↦[S a]{fullShare} f) :=
    BI.bigSep_mono fun a _ => by show (ℓ ↦[S a]{fullShare} f : sProp 𝕄) ⊢ _; iintro H; iexists f; iexact H
  iintro ⟨%f, H⟩
  ihave H := (Entails.of_eq (cut S hd hc f)) $$ H
  iapply (h f) $$ H

theorem whole_cut : Whole (F := F) c ⊢ bigSep Finset.univ fun u => Bufs (F := F) c u := by
  unfold Whole
  rw [bufs_parts]
  unfold BfA BfB BfZ
  iintro ⟨H0, H1, H2⟩
  isplitl [H0]
  · iapply (cut_any (ℓ := (c : Thread nD τ).loc cc0_scratch1) dstA dstA_apart dstA_cover) $$ H0
  isplitl [H1]
  · iapply (cut_any (ℓ := (c : Thread nD τ).loc cc0_scratch2) dstB dstB_apart dstB_cover) $$ H1
  iapply (cut_any (ℓ := (c : Thread nD τ).loc cc0_scratch3) (fun u : Fin 8 × Fin 3 => dstZ u.1 u.2) dstZ_apart dstZ_cover) $$ H2

theorem whole_join : (bigSep Finset.univ fun u => Bufs (F := F) c u) ⊢ Whole (F := F) c := by
  unfold Whole
  rw [bufs_parts]
  unfold BfA BfB BfZ
  iintro ⟨H0, H1, H2⟩
  isplitl [H0]
  · iapply (join (ℓ := (c : Thread nD τ).loc cc0_scratch1) dstA dstA_apart dstA_cover) $$ H0
  isplitl [H1]
  · iapply (join (ℓ := (c : Thread nD τ).loc cc0_scratch2) dstB dstB_apart dstB_cover) $$ H1
  iapply (join (ℓ := (c : Thread nD τ).loc cc0_scratch3) (fun u : Fin 8 × Fin 3 => dstZ u.1 u.2) dstZ_apart dstZ_cover) $$ H2

theorem acc_cut (f : Acc F) : (accL c Finset.univ fullShare f : sProp 𝕄) = bigSep Finset.univ fun u => accL c (cols u) fullShare f :=
  cut (ℓ := (c : Thread nD τ).loc cc0_scratch0) cols cols_apart cols_cover f
theorem out_cut (f : FVec F S1024x1024 .f32) : (outL c Finset.univ f : sProp 𝕄) = bigSep Finset.univ fun u => outL c (cols u) f :=
  cut (ℓ := (c : Thread nD τ).loc cc0_stg2_0) cols cols_apart cols_cover f

/-- Ten things as six groups. -/
theorem bigSep_ten (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) := by
  rw [BI.bigSep_univ_eq_bigSepL [0, 1, 2, 3, 4, 5, 6, 7, 8, 9] (by decide) (by decide)]
  rfl
theorem groups_in (Φ : Fin 10 → sProp 𝕄) : bigSep Finset.univ Φ ⊢ Gaft Φ 6 := by
  rw [bigSep_ten]
  show _ ⊢ iprop(Φ 0 ∗ Φ 1 ∗ (Φ 2 ∗ Φ 3 ∗ Φ 4) ∗ (Φ 5 ∗ Φ 6 ∗ Φ 7) ∗ Φ 8 ∗ Φ 9 ∗ emp)
  iintro ⟨H0, H1, H2, H3, H4, H5, H6, H7, H8, H9⟩
  isplitl [H0]; · iexact H0
  isplitl [H1]; · iexact H1
  isplitl [H2 H3 H4]
  · isplitl [H2]; · iexact H2
    isplitl [H3] <;> iassumption
  isplitl [H5 H6 H7]
  · isplitl [H5]; · iexact H5
    isplitl [H6] <;> iassumption
  isplitl [H8]; · iexact H8
  isplitl [H9]; · iexact H9
  iempintro
theorem groups_out (Φ : Fin 10 → sProp 𝕄) : Gbef Φ 6 ⊢ bigSep Finset.univ Φ := by
  rw [bigSep_ten]
  show iprop((((((emp ∗ Φ 0) ∗ Φ 1) ∗ (Φ 2 ∗ Φ 3 ∗ Φ 4)) ∗ (Φ 5 ∗ Φ 6 ∗ Φ 7)) ∗ Φ 8) ∗ Φ 9) ⊢ _
  iintro ⟨⟨⟨⟨⟨⟨-, H0⟩, H1⟩, ⟨H2, H3, H4⟩⟩, ⟨H5, H6, H7⟩⟩, H8⟩, H9⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8] <;> iassumption

end Cert.KernelIdeal.K
-- ==== Proof.KernelIdeal.Body.lean ====
module

public import proofs.«01_k».proof.Proof.KernelIdeal.Buffers

/-! # The whole body

From what a device holds when its kernel starts to what it holds when the kernel ends. -/

@[expose] public section

set_option maxRecDepth 65536

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V0 : Dev nD → Acc F) (K : Dev nD × Cell → ℕ) (c : Dev nD)

/-! ## Units in and out -/

/-- The transfers of every unit before they begin, and after they are over. -/
def Pends : sProp 𝕄 := bigSep Finset.univ fun u : Fin 8 => bigSep Finset.univ fun s : Fin 10 => Pend c u s
def Dns : sProp 𝕄 := bigSep Finset.univ fun u : Fin 8 => bigSep Finset.univ fun s : Fin 10 => Dn (F := F) c u s
/-- A unit's share of the room on its peers. -/
def Rooms (u : Fin 8) : sProp 𝕄 := iprop(Rm (F := F) c u 0 ∗ Rm (F := F) c u 1 ∗ Rm (F := F) c u 2 ∗ Rm (F := F) c u 3 ∗ Rm (F := F) c u 4)

theorem units_mono {Φ Ψ : Fin 8 → sProp 𝕄} (h : ∀ u, Φ u ⊢ Ψ u) : bigSep Finset.univ Φ ⊢ bigSep Finset.univ Ψ := BI.bigSep_mono fun u _ => h u

theorem bufs_deal : (bigSep Finset.univ fun u => Bufs (F := F) c u) = bigSep Finset.univ fun d : D => barPay (F := F) (sigDev c d) d := by
  rw [← bufs_out, BI.bigSep_univ_prod]
  refine BI.bigSep_congr fun u _ => ?_
  rw [bigSep_five]; rfl
theorem rooms_deal : (bigSep Finset.univ fun d : D => barPay (F := F) c d) = bigSep Finset.univ fun u => Rooms (F := F) c u := by
  rw [rooms_in, BI.bigSep_univ_prod]
  refine BI.bigSep_congr fun u _ => ?_
  rw [bigSep_five]; rfl

theorem unit_in (u : Fin 8) : iprop((bigSep Finset.univ fun s : Fin 10 => Pend c u s) ∗ accL c (cols u) fullShare (V0 c) ∗ Rooms (F := F) c u ∗ outA (F := F) c u)
    ⊢ St V0 c u 0 := by
  show _ ⊢ iprop(emp ∗ emp ∗ Gaft (Pend c u) 6 ∗ accL c (cols u) fullShare (V0 c) ∗ Rm (F := F) c u 0 ∗ Rm (F := F) c u 1 ∗ Rm (F := F) c u 2
    ∗ Rm (F := F) c u 3 ∗ Rm (F := F) c u 4 ∗ outA (F := F) c u)
  unfold Rooms
  iintro ⟨HP, Ha, ⟨R0, R1, R2, R3, R4⟩, Ho⟩
  isplitr; · iempintro
  isplitr; · iempintro
  isplitl [HP]; · iapply (groups_in (Pend c u)); iexact HP
  isplitl [Ha]; · iexact Ha
  isplitl [R0]; · iexact R0
  isplitl [R1]; · iexact R1
  isplitl [R2]; · iexact R2
  isplitl [R3]; · iexact R3
  isplitl [R4] <;> iassumption

theorem unit_out (u : Fin 8) : St V0 c u 7
    ⊢ iprop((bigSep Finset.univ fun s : Fin 10 => Dn (F := F) c u s) ∗ (∃ f, accL c (cols u) fullShare f) ∗ outL c (cols u) (outV V0) ∗ Bufs (F := F) c u) := by
  show iprop(Gbef (Dn c u) 6 ∗ emp ∗ emp ∗ accL c (cols u) fullShare (Wf V0 u) ∗ outL c (cols u) (outV V0) ∗ Bf (F := F) c u 0 ∗ Bf (F := F) c u 1
    ∗ Bf (F := F) c u 2 ∗ Bf (F := F) c u 3 ∗ Bf (F := F) c u 4) ⊢ _
  unfold Bufs
  iintro ⟨HD, -, -, Ha, Ho, HB⟩
  isplitl [HD]; · iapply (groups_out (Dn c u)); iexact HD
  isplitl [Ha]; · iexists _; iexact Ha
  isplitl [Ho]; · iexact Ho
  iexact HB

theorem units_in : iprop(Pends (F := F) c ∗ accL c Finset.univ fullShare (V0 c) ∗ (bigSep Finset.univ fun d : D => barPay (F := F) c d)
      ∗ ∃ f, outL (F := F) c Finset.univ f) ⊢ bigSep Finset.univ fun u => St V0 c u 0 := by
  unfold Pends
  rw [acc_cut, rooms_deal]
  iintro ⟨HP, Ha, HR, ⟨%f, Ho⟩⟩
  ihave Ho := (Entails.of_eq (out_cut c f)) $$ Ho
  have hf : (bigSep Finset.univ fun u => outL (F := F) c (cols u) f) ⊢ bigSep Finset.univ fun u => outA (F := F) c u :=
    units_mono fun u => by iintro H; iexists f; iexact H
  ihave Ho := hf $$ Ho
  iapply (units_mono (fun u => unit_in V0 c u))
  rw [bigSep_sep', bigSep_sep', bigSep_sep']
  isplitl [HP]; · iexact HP
  isplitl [Ha]; · iexact Ha
  isplitl [HR] <;> iassumption

theorem units_out : (bigSep Finset.univ fun u => St V0 c u 7)
    ⊢ iprop(Dns (F := F) c ∗ (∃ f, accL c Finset.univ fullShare f) ∗ outL c Finset.univ (outV V0) ∗ Whole (F := F) c) := by
  refine (units_mono fun u => unit_out V0 c u).trans ?_
  rw [bigSep_sep', bigSep_sep', bigSep_sep', ← out_cut]
  unfold Dns
  iintro ⟨HD, Ha, Ho, HB⟩
  isplitl [HD]; · iexact HD
  isplitl [Ha]
  · unfold accL
    iapply (join (ℓ := (c : Thread nD τ).loc cc0_scratch0) cols cols_apart cols_cover) $$ Ha
  isplitl [Ho]; · iexact Ho
  iapply (whole_join c) $$ HB

/-! ## The body -/

variable (X : (cc0_stg0_0 : Ref sig .tc).ty.Contents (Elt F)) (W : (cc0_stg1_0 : Ref sig .tc).ty.Contents (Elt F))

/-- What a device starts from. -/
def BodyPre : sProp 𝕄 :=
  iprop(((c : Thread nD τ).loc cc0_stg0_0 ↦{fullShare} X) ∗ ((c : Thread nD τ).loc cc0_stg1_0 ↦{fullShare} W) ∗ (∃ f, outL (F := F) c Finset.univ f)
    ∗ (∃ f, accL (F := F) c Finset.univ fullShare f) ∗ Whole (F := F) c ∗ (bigSep Finset.univ fun d : D => dutyTok ER (barC (sigDev c d)) 0 d)
    ∗ atPos ER (barC c) 0 ∅ 0 ∗ cred (tallyAt (barC c) () 5) ∗ Pends (F := F) c ∗ Ow (F := F) c (O₀ c))
/-- What it ends with. -/
def BodyPost : sProp 𝕄 :=
  iprop(((c : Thread nD τ).loc cc0_stg0_0 ↦{fullShare} X) ∗ ((c : Thread nD τ).loc cc0_stg1_0 ↦{fullShare} W) ∗ outL c Finset.univ (outV V0)
    ∗ (∃ f, accL (F := F) c Finset.univ fullShare f) ∗ Whole (F := F) c ∗ semVal (barC c) 0 ∗ Dns (F := F) c ∗ Ow (F := F) c 0)

theorem sig_in : iprop(Whole (F := F) c ∗ bigSep Finset.univ fun d : D => dutyTok ER (barC (sigDev c d)) 0 d)
    ⊢ iprop(SigIn (F := F) c 0 ∗ SigIn (F := F) c 1 ∗ SigIn (F := F) c 2 ∗ SigIn (F := F) c 3 ∗ SigIn (F := F) c 4) := by
  rw [← bigSep_five (fun d => SigIn (F := F) c d), bigSep_sep']
  iintro ⟨HW, HT⟩
  isplitl [HT]; · iexact HT
  ihave HW := (whole_cut c) $$ HW
  iapply (Entails.of_eq (bufs_deal c)) $$ HW

/-- The body's triple. -/
theorem body (hV : V0 c = k0_pay2 X W) : T V0 K c (BodyPre c X W) (barP c >>= fun _ => dotP >>= fun _ => runs c sched) (BodyPost V0 c X W) := by
  unfold T BodyPre
  iintro ⟨#C, HX, HY, Ho, Ha, HW, HT, HA, HC, HP, HO⟩
  iapply (bar V0 K c).bind $$ [HW HT HA HC HO]
  · isplitr; · iexact C
    isplitl [HW HT]
    · iapply (sig_in c); isplitl [HW] <;> iassumption
    isplitl [HA]; · iexact HA
    isplitl [HC]; · iexact HC
    iexact HO
  iintro ⟨Hz, HR, HO⟩
  iapply (dot V0 K c X W).bind $$ [HX HY Ha]
  · isplitr; · iexact C
    isplitl [HX]; · iexact HX
    isplitl [HY]; · iexact HY
    iexact Ha
  iintro ⟨HX, HY, Ha⟩
  rw [← hV]
  ihave HS := (units_in V0 c) $$ [HP Ha HR Ho]
  · isplitl [HP]; · iexact HP
    isplitl [Ha]; · iexact Ha
    isplitl [HR] <;> iassumption
  iapply (runs_fit V0 K c sched (fun _ => 0) sched_fits).last $$ [HS HO]
  · isplitr; · iexact C
    isplitl [HS]; · iexact HS
    iexact HO
  iintro ⟨HS, HO⟩
  ihave HS := (units_out V0 c) $$ HS
  icases HS with ⟨HD, Ha, Ho, HW⟩
  unfold BodyPost
  isplitl [HX]; · iexact HX
  isplitl [HY]; · iexact HY
  isplitl [Ho]; · iexact Ho
  isplitl [Ha]; · iexact Ha
  isplitl [HW]; · iexact HW
  isplitl [Hz]; · iexact Hz
  isplitl [HD]; · iexact HD
  iexact HO

end Cert.KernelIdeal.K
-- ==== Proof.KernelIdeal.Credits.lean ====
module

public import proofs.«01_k».proof.Proof.KernelIdeal.Body

/-! # What the devices owe one another at launch, cell by cell -/

@[expose] public section

set_option maxRecDepth 65536

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The debt as a sum -/

/-- What the transfers of a step discharge. -/
def stp (c : Dev nD) (u : Fin 8) : Fin 7 → CellTallies nD τ sig Unit
  | ⟨0, _⟩ => tl c u 0
  | ⟨1, _⟩ => tl c u 1
  | ⟨2, _⟩ => tl c u 4 + tl c u 3 + tl c u 2
  | ⟨3, _⟩ => tl c u 7 + tl c u 6 + tl c u 5
  | ⟨4, _⟩ => tl c u 8
  | ⟨5, _⟩ => tl c u 9
  | ⟨_ + 6, _⟩ => 0
theorem addOwed_eq (c : Dev nD) (u : Fin 8) (O : CellTallies nD τ sig Unit) : ∀ k : Fin 7, addOwed c u O k = stp c u k + O
  | ⟨0, _⟩ => add_comm _ _
  | ⟨1, _⟩ => add_comm _ _
  | ⟨2, _⟩ => by show O + tl c u 4 + tl c u 3 + tl c u 2 = tl c u 4 + tl c u 3 + tl c u 2 + O; rw [add_comm _ O, add_assoc, add_assoc, add_assoc]
  | ⟨3, _⟩ => by show O + tl c u 7 + tl c u 6 + tl c u 5 = tl c u 7 + tl c u 6 + tl c u 5 + O; rw [add_comm _ O, add_assoc, add_assoc, add_assoc]
  | ⟨4, _⟩ => add_comm _ _
  | ⟨5, _⟩ => add_comm _ _
  | ⟨_ + 6, _⟩ => (zero_add _).symm
theorem owedL_eq (c : Dev nD) : ∀ l, owedL c l = (l.map fun p => stp c p.1 p.2).sum
  | [] => rfl
  | (u, k) :: l => by rw [List.map_cons, List.sum_cons, ← owedL_eq c l]; exact addOwed_eq c u _ k
theorem sched_nodup : sched.Nodup := by decide +kernel
theorem sched_all : sched.toFinset = Finset.univ := by decide +kernel

/-- Every transfer's landing is owed once. -/
theorem owed_sched (c : Dev nD) : owedL c sched = ∑ us : Fin 8 × Fin 10, tl c us.1 us.2 := by
  rw [owedL_eq, ← List.sum_toFinset (fun p : Fin 8 × Fin 7 => stp c p.1 p.2) sched_nodup, sched_all, Fintype.sum_prod_type, Fintype.sum_prod_type]
  refine Finset.sum_congr rfl fun u _ => ?_
  rw [Fin.sum_univ_seven, Fin.sum_univ_castSucc, Fin.sum_univ_castSucc, Fin.sum_univ_eight]
  show tl c u 0 + tl c u 1 + (tl c u 4 + tl c u 3 + tl c u 2) + (tl c u 7 + tl c u 6 + tl c u 5) + tl c u 8 + tl c u 9 + 0
    = tl c u 0 + tl c u 1 + tl c u 2 + tl c u 3 + tl c u 4 + tl c u 5 + tl c u 6 + tl c u 7 + tl c u 8 + tl c u 9
  rw [add_zero]; ac_rfl

theorem owed_all (c : Dev nD) : O₀ c = (∑ us : Fin 8 × Fin 10, tl c us.1 us.2) + ∑ d : D, tb c d := by
  unfold O₀
  rw [owed_sched, Fin.sum_univ_five]
  ac_rfl

theorem owed_at (c : Dev nD) (g : GSem nD τ sig) : O₀ c g () = (∑ us : Fin 8 × Fin 10, tl c us.1 us.2 g ()) + ∑ d : D, tb c d g () := by
  rw [owed_all, Pi.add_apply, Finsupp.add_apply, Finset.sum_apply, Finset.sum_apply, Finsupp.finset_sum_apply, Finsupp.finset_sum_apply]

/-! ## One cell's share -/

theorem bar_ne_rcv (b c : Dev nD) (u : Fin 8) (s : Fin 10) : barC b ≠ rcvC c u s := fun h => by cases congrArg Prod.snd h
theorem rcv_inj {b c : Dev nD} {u v : Fin 8} {s r : Fin 10} (h : rcvC b u s = rcvC c v r) : b = c ∧ u = v ∧ s = r := by
  have h := kcell_injective (a₁ := (b, some (true, u, s))) (a₂ := (c, some (true, v, r))) h
  simpa using h
theorem bar_inj {b c : Dev nD} (h : barC b = barC c) : b = c :=
  congrArg Prod.fst (kcell_injective (a₁ := (b, none)) (a₂ := (c, none)) h)

theorem owed_rcv (d c : Dev nD) (u : Fin 8) (s : Fin 10) : O₀ d (rcvC c u s) () = if d = frm c u s then N s else 0 := by
  rw [owed_at, Finset.sum_eq_zero (s := (Finset.univ : Finset D)) (fun e _ => by unfold tb; rw [tallyAt_ne_cell (bar_ne_rcv _ _ _ _).symm]; rfl), Nat.add_zero,
    Finset.sum_eq_single (u, s)]
  · show tl d u s (rcvC c u s) () = _
    unfold tl
    rw [tallyAt_apply]
    by_cases h : d = frm c u s
    · rw [if_pos h, if_pos ⟨by rw [h, peer_frm], rfl⟩]
    · rw [if_neg h, if_neg fun e => h (by rw [(rcv_inj e.1).1, frm_peer])]
  · intro us _ h
    unfold tl
    rw [tallyAt_apply, if_neg fun e => h (Prod.ext (rcv_inj e.1).2.1.symm (rcv_inj e.1).2.2.symm)]
  · exact fun h => absurd (Finset.mem_univ _) h

theorem owed_bar (d c : Dev nD) : O₀ d (barC c) () = ∑ e : D, if d = sigFrm c e then 1 else 0 := by
  rw [owed_at, Finset.sum_eq_zero (s := (Finset.univ : Finset (Fin 8 × Fin 10))) (fun us _ => by unfold tl; rw [tallyAt_ne_cell (bar_ne_rcv _ _ _ _)]; rfl), Nat.zero_add]
  refine Finset.sum_congr rfl fun e _ => ?_
  unfold tb
  rw [tallyAt_apply]
  by_cases h : d = sigFrm c e
  · rw [if_pos h, if_pos ⟨by rw [h, sigDev_sigFrm], rfl⟩]
  · rw [if_neg h, if_neg fun w => h (by rw [bar_inj w.1, sigFrm_sigDev])]

theorem launch_rcv (c : Dev nD) (u : Fin 8) (s : Fin 10) :
    tallyOn (rcvC c u s) (launchCredit (Pipeline.owing O₀) 0 (rcvC c u s)) = (tallyAt (rcvC c u s) () (N s) : CellTallies nD τ sig Unit) := by
  unfold tallyAt; refine congrArg _ (Finsupp.ext fun x => ?_); cases x
  rw [Pipeline.launchCredit_owing, Finsupp.single_eq_same, Finset.sum_congr rfl fun d _ => owed_rcv d c u s, Finset.sum_ite_eq' Finset.univ (frm c u s) fun _ => N s,
    if_pos (Finset.mem_univ _)]
theorem launch_bar (c : Dev nD) : tallyOn (barC c) (launchCredit (Pipeline.owing O₀) 0 (barC c)) = (tallyAt (barC c) () 5 : CellTallies nD τ sig Unit) := by
  unfold tallyAt; refine congrArg _ (Finsupp.ext fun x => ?_); cases x
  rw [Pipeline.launchCredit_owing, Finsupp.single_eq_same, Finset.sum_congr rfl fun d _ => owed_bar d c, Finset.sum_comm,
    Finset.sum_congr rfl fun e _ => (Finset.sum_ite_eq' Finset.univ (sigFrm c e) fun _ => 1).trans (if_pos (Finset.mem_univ _))]
  rfl

/-! ## Cells one by one -/

/-- The cells are the barrier and the others. -/
theorem bigSep_cells (Φ : Cell → sProp 𝕄) : bigSep Finset.univ Φ = iprop(Φ none ∗ bigSep Finset.univ fun k => Φ (some k)) := by
  have e : (Finset.univ : Finset Cell).erase none = Finset.univ.map ⟨some, Option.some_injective _⟩ := by
    ext k; cases k <;> simp
  rw [BI.bigSep_univ_at Φ none, e, BI.bigSep_map]
  rfl
/-- Of the two kinds of transfer cell one may be dropped. -/
theorem bigSep_kinds (Φ : Bool × Fin 8 × Fin 10 → sProp 𝕄) :
    bigSep Finset.univ Φ = iprop((bigSep Finset.univ fun us => Φ (false, us)) ∗ bigSep Finset.univ fun us => Φ (true, us)) := by
  rw [BI.bigSep_univ_prod, BI.bigSep_univ_eq_bigSepL [false, true] (by decide) (by decide)]
  rfl

/-- The credits that a device starts with. -/
theorem creds (c : Dev nD) : (Pipeline.launchCred O₀ c : sProp 𝕄)
    ⊢ iprop(cred (tallyAt (barC c) () 5) ∗ bigSep Finset.univ fun us : Fin 8 × Fin 10 => CrR c us.1 us.2) := by
  have h : (Pipeline.launchCred O₀ c : sProp 𝕄)
      ⊢ bigSep Finset.univ fun k : Cell => cred (tallyOn (kcell (c, k)) (launchCredit (Pipeline.owing O₀) 0 (kcell (c, k)))) := by
    unfold Pipeline.launchCred
    have a (Φ : SemLoc sig → sProp 𝕄) : bigSep Finset.univ Φ ⊢ bigSep Finset.univ fun k : Cell => Φ (csem k) := by
      have b : bigSep Finset.univ Φ ⊢ bigSep (Finset.univ.map ⟨csem, csem_injective⟩) Φ := BI.bigSep_subset (Finset.subset_univ _)
      rw [BI.bigSep_map] at b
      exact b
    exact a _
  refine h.trans ?_
  rw [bigSep_cells, bigSep_kinds]
  unfold CrR
  iintro ⟨HB, -, HR⟩
  isplitl [HB]
  · rw [← launch_bar]; iexact HB
  · iapply (Entails.of_eq (BI.bigSep_congr (s := Finset.univ) fun (us : Fin 8 × Fin 10) _ => (congrArg cred (launch_rcv c us.1 us.2) :
      (cred (tallyOn (rcvC c us.1 us.2) (launchCredit (Pipeline.owing O₀) 0 (rcvC c us.1 us.2))) : sProp 𝕄) = _))) $$ HR

/-! ## Levels -/

/-- All that is owed lies above level 0. -/
theorem owed_above (c : Dev nD) : Above 0 (O₀ c) := by
  have hb (d : D) : Above 0 (tb c d) := Above.tally (by rw [lv_bar]; exact Nat.one_pos)
  exact ((((((owedL_above sched_above).mono (by decide)).add (hb 4)).add (hb 3)).add (hb 2)).add (hb 1)).add (hb 0)

/-- The pipeline's own waits lie below. -/
theorem mayWait_stage (c : Dev nD) {i : DmaSem sig} (h : kindOf (.dma i) = none) {O : CellTallies nD τ sig Unit} (hO : Above 0 O) :
    (levAts L lv : sProp 𝕄) ⊢ MayWait (c : Thread nD τ) (.dma i) () O :=
  hO.mayWait (by unfold lv; rw [h]; exact le_rfl)

end Cert.KernelIdeal.K
-- ==== Proof.KernelIdeal.Launch.lean ====
module

public import proofs.«01_k».proof.Proof.KernelIdeal.Credits
public import Idealize.ShloMosaic.Lib.Pipeline.CollectiveSegs

/-! # The launch

The set-up of the cells, the pipeline's data, and the run of `@main`: from any memory with zero counters every execution
ends with each device's result at `outV`, the arguments as they were and every counter at zero. -/

@[expose] public section

set_option maxRecDepth 65536

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-! ## Contents -/

/-- A device's blocks of the two operands, as staged. -/
def xstg (c : Dev nD) : (cc0_stg0_0 : Ref sig .tc).ty.Contents (Elt F) := (win0_0.blk (0 : Fin 1)).view.read (Elt F) ((s₀ m ρ).mem ((c : Thread nD τ).loc main_arg0))
def wstg (c : Dev nD) : (cc0_stg1_0 : Ref sig .tc).ty.Contents (Elt F) := (win0_1.blk (0 : Fin 1)).view.read (Elt F) ((s₀ m ρ).mem ((c : Thread nD τ).loc main_arg1))
/-- The local products. -/
def prods (c : Dev nD) : Acc F := k0_pay2 (xstg m ρ c) (wstg m ρ c)

/-! ## What each device holds -/

/-- Its tokens and positions. -/
def mine (c : Dev nD) : sProp 𝕄 :=
  iprop(atPos ER (barC c) 0 ∅ 0 ∗ (bigSep Finset.univ fun d : D => dutyTok ER (barC (sigDev c d)) 0 d)
    ∗ bigSep Finset.univ fun us : Fin 8 × Fin 10 => iprop(Tok c us.1 us.2 ∗ Pos c us.1 us.2))
/-- The same, with the cells' invariants. -/
def G' (c : Dev nD) : sProp 𝕄 := iprop(∃ K, records (prods m ρ) K ∗ mine (F := F) c)
def start (c : Dev nD) : sProp 𝕄 :=
  iprop(G' m ρ c ∗ cred (tallyAt (barC c) () 5) ∗ (bigSep Finset.univ fun us : Fin 8 × Fin 10 => CrR c us.1 us.2) ∗ levAts L lv)
/-- Before the body, and after it. -/
def Φ₀ (c : Dev nD) : sProp 𝕄 := iprop(start m ρ c ∗ (∃ f, accL (F := F) c Finset.univ fullShare f) ∗ Whole (F := F) c)
def Φ₁ (c : Dev nD) : sProp 𝕄 := iprop(semVal (barC c) 0 ∗ Dns (F := F) c ∗ (∃ f, accL (F := F) c Finset.univ fullShare f) ∗ Whole (F := F) c)

/-- The pipeline's data. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outV (prods m ρ)
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

/-- A staging buffer with its contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ (F := F) c ∗ (dats m ρ 0 c).owesAt () t0_0.succ ∗ stg c cc0_stg0_0 (xstg m ρ c) ∗ stg c cc0_stg1_0 (wstg m ρ c)
    ∗ stg c cc0_stg2_0 (outV (prods m ρ)))

/-- The transfers before they begin, from tokens, positions and credits. -/
theorem pends_intro (c : Dev nD) : iprop((bigSep Finset.univ fun us : Fin 8 × Fin 10 => iprop(Tok (F := F) c us.1 us.2 ∗ Pos c us.1 us.2))
    ∗ bigSep Finset.univ fun us : Fin 8 × Fin 10 => CrR c us.1 us.2) ⊢ Pends (F := F) c := by
  unfold Pends Pend
  rw [← BI.bigSep_univ_prod (fun us : Fin 8 × Fin 10 => iprop(Tok (F := F) c us.1 us.2 ∗ Pos c us.1 us.2 ∗ CrR c us.1 us.2)), bigSep_sep', bigSep_sep', bigSep_sep']
  iintro ⟨⟨HT, HP⟩, HC⟩
  isplitl [HT]; · iexact HT
  isplitl [HP] <;> iassumption

theorem pre_intro (c : Dev nD) : bodyPre m ρ c ⊢ iprop(∃ K, ctx (prods m ρ) K ∗ BodyPre c (xstg m ρ c) (wstg m ρ c)) := by
  unfold bodyPre Φ₀ start G' mine BodyPre Dat.owesAt Pipeline.owesWithin
  iintro ⟨⟨⟨⟨%K, #HK, HA, HT, HTP⟩, HC, HCR, #Hlev⟩, Hacc, HW⟩, ⟨%W, %hW, HO⟩, ⟨%d0, %g0, %hg0, Hx⟩, ⟨%d1, %g1, %hg1, Hy⟩, ⟨%d2, %g2, %hg2, Ho⟩⟩
  have hx : g0 = xstg m ρ c := by rw [hg0]; unfold Dat.before; rw [if_pos (fetch_0 t0_0)]; rfl
  have hy : g1 = wstg m ρ c := by rw [hg1]; unfold Dat.before; rw [if_pos (fetch_1 t0_0)]; rfl
  subst hx hy
  iexists K
  isplitr
  · unfold ctx; isplitr; · iexact HK
    iexact Hlev
  isplitl [Hx]; · iexact Hx
  isplitl [Hy]; · iexact Hy
  isplitl [Ho]; · iexists g2; unfold outL; iexact Ho
  isplitl [Hacc]; · iexact Hacc
  isplitl [HW]; · iexact HW
  isplitl [HT]; · iexact HT
  isplitl [HA]; · iexact HA
  isplitl [HC]; · iexact HC
  isplitl [HTP HCR]
  · iapply (pends_intro c); isplitl [HTP] <;> iassumption
  unfold Ow
  iexists W; iexact HO

theorem post_intro (c : Dev nD) : BodyPost (prods m ρ) c (xstg m ρ c) (wstg m ρ c) ⊢ bodyPost m ρ c := by
  unfold bodyPost Φ₁ BodyPost Dat.owesAt Pipeline.owesWithin Ow
  iintro ⟨Hx, Hy, Ho, Hacc, HW, Hz, HD, ⟨%W, HO⟩⟩
  isplitl [Hz HD Hacc HW]
  · isplitl [Hz]; · iexact Hz
    isplitl [HD]; · iexact HD
    isplitl [Hacc] <;> iassumption
  isplitl [HO]
  · iexists W
    isplitr; · ipureintro; exact fun _ _ => Or.inl trivial
    iexact HO
  isplitl [Hx]
  · iexists _; isplitr; · (ipureintro; rfl)
    iexact Hx
  isplitl [Hy]
  · iexists _; isplitr; · (ipureintro; rfl)
    iexact Hy
  iexists _; isplitr; · (ipureintro; rfl)
  unfold outL; iexact Ho

theorem sound_body (c : Dev nD) : bodyPre m ρ c ⊢ wp frame (wpE (defs₀ (F := F)) 𝒱₀ c none) Set.univ (bodyP (F := F)) (fun _ => bodyPost m ρ c) := by
  unfold bodyP
  simp only [Prog.lift, Prog.bind_op, Prog.bind_ret, wp_deviceId]
  refine (pre_intro m ρ c).trans ?_
  iintro ⟨%K, #C, H⟩
  iapply (body (prods m ρ) K c (xstg m ρ c) (wstg m ρ c) rfl).last $$ [H]
  · isplitr; · iexact C
    iexact H
  iintro H
  iapply (post_intro m ρ c) $$ H

theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body xM (Memref.isWhole_whole _) wM (Memref.isWhole_whole _) outM (Memref.isWhole_whole _)
      accM (Memref.isWhole_whole _) rb0M (Memref.isWhole_whole _) rb1M (Memref.isWhole_whole _) rbzM (Memref.isWhole_whole _)
      cc0_scratch4 cc0_scratch5) (fun _ => bodyPost m ρ c)
  rw [body_eq]
  exact sound_body m ρ c

/-! ## The cells' set-up -/

/-- The kernel's own semaphores: all cells but the barrier. -/
abbrev osem (k : Bool × Fin 8 × Fin 10) : SemLoc sig := csem (some k)
theorem ownSemFacts : Pipeline.OwnSemFacts cfg0.spec osem :=
  ⟨by decide +kernel, fun a b h => Option.some.inj (csem_injective h), by decide +kernel⟩
theorem share_eq (c : Dev nD) (w : Fin cfg0.W) : (dats m ρ 0 c).share w = fullShare := by unfold Dat.share; split <;> rfl

def ringCells : Finset (GSem nD τ sig) := Finset.univ.map ⟨kcell, kcell_injective⟩
/-- A token for each cell and duty name. -/
abbrev tokOf (x : (Dev nD × Cell) × D) : GSem nD τ sig × ℕ × D := (kcell x.1, 0, x.2)
theorem tokOf_injective : Function.Injective tokOf := fun x y h =>
  Prod.ext (kcell_injective (congrArg Prod.fst h)) (congrArg (fun z => z.2.2) h)
def ringToks : Finset (GSem nD τ sig × ℕ × D) := Finset.univ.map ⟨tokOf, tokOf_injective⟩
def u₀ : UU := (initOf (Pipeline.cells cfgs cellOf_inj) (Pipeline.launchToks cfgs cellOf_inj), initOf ringCells ringToks)

/-- The tokens of device `c`'s own cells. -/
def toks (c : Dev nD) : sProp 𝕄 :=
  bigSep Finset.univ fun k : Cell => bigSep Finset.univ fun d : D => dutyTok ER (kcell (c, k)) 0 d
/-- What the launch deals device `c`. -/
def G (c : Dev nD) : sProp 𝕄 :=
  iprop((bigSep Finset.univ fun k : Cell => roundState ER (Rd (prods m ρ)) (kcell (c, k)) 0)
    ∗ (bigSep Finset.univ fun k : Cell => iprop(atPos ER (kcell (c, k)) 0 ∅ 0 ∗ reached ER (kcell (c, k)) 0)) ∗ toks (F := F) c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Cell => Φ (kcell (c, k)) := by
    unfold ringCells; rw [BI.bigSep_map, BI.bigSep_univ_prod]; rfl
  have hT : bigSep ringToks (fun x => (dutyTok ER x.1 x.2.1 x.2.2 : sProp 𝕄)) = bigSep Finset.univ fun c : Dev nD => toks (F := F) c := by
    unfold ringToks toks; rw [BI.bigSep_map, BI.bigSep_univ_prod, BI.bigSep_univ_prod]; rfl
  iintro HX
  imod (Rounds.fund ER (Rd (prods m ρ)) ringCells ringToks) $$ HX with ⟨Hst, Hr, Hat, Htok⟩
  imodintro
  ihave Hst := (Entails.of_eq (hX fun g => roundState ER (Rd (prods m ρ)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem unscopedSems0_eq (c : Dev nD) : (unscopedSems0 c : sProp 𝕄) = semVal (barC c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (kcell (c, k)) 0 : sProp 𝕄) := by
  unfold Pipeline.ownSems0
  rw [unscopedSems0_eq, bigSep_cells]
  iintro ⟨HS, HB⟩
  isplitl [HB]; · iexact HB
  iexact HS

theorem cells_alloc (c : Dev nD) : iprop((bigSep Finset.univ fun k : Cell => semVal (kcell (c, k)) 0) ∗ bigSep Finset.univ fun k : Cell => roundState ER (Rd (prods m ρ)) (kcell (c, k)) 0)
    ⊢ (|={Set.univ}=> bigSep Finset.univ fun k => iprop(∃ κ : ℕ, cellInv ER (Rd (prods m ρ)) κ (kcell (c, k))) : sProp 𝕄) := by
  rw [← bigSep_sep']
  exact (bigSep_mono fun k _ => (Rounds.body_intro ER (Rd (prods m ρ)) (kcell (c, k))).trans inv_alloc).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd (prods m ρ)) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (cells_alloc m ρ c) $$ [Hv Hst] with Hinv
  · isplitl [Hv] <;> iassumption
  imodintro
  isplitl [Hinv]; · iexact Hinv
  isplitl [Hat]; · iexact Hat
  iexact Htok

/-! ### The tokens go to those who pay with them -/

/-- A device's own tokens, one by one. -/
def toks' (c : Dev nD) : sProp 𝕄 :=
  iprop((bigSep Finset.univ fun d : D => dutyTok ER (barC c) 0 d)
    ∗ (bigSep Finset.univ fun us : Fin 8 × Fin 10 => dutyTok ER (sndC c us.1 us.2) 0 0) ∗ bigSep Finset.univ fun us : Fin 8 × Fin 10 => dutyTok ER (rcvC c us.1 us.2) 0 0)
/-- The tokens that a device pays with. -/
def pays (c : Dev nD) : sProp 𝕄 :=
  iprop((bigSep Finset.univ fun d : D => dutyTok ER (barC (sigDev c d)) 0 d)
    ∗ (bigSep Finset.univ fun us : Fin 8 × Fin 10 => dutyTok ER (sndC c us.1 us.2) 0 0)
    ∗ bigSep Finset.univ fun us : Fin 8 × Fin 10 => dutyTok ER (rcvC (peer c us.1 us.2) us.1 us.2) 0 0)

theorem bigSep_mono_all {A : Type} [Fintype A] {Φ Ψ : A → sProp 𝕄} (h : ∀ a, Φ a ⊢ Ψ a) : bigSep Finset.univ Φ ⊢ bigSep Finset.univ Ψ := BI.bigSep_mono fun a _ => h a

theorem toks_list (c : Dev nD) : toks (F := F) c ⊢ toks' c := by
  have pick (g : GSem nD τ sig) : (bigSep Finset.univ fun d : D => (dutyTok ER g 0 d : sProp 𝕄)) ⊢ dutyTok ER g 0 0 :=
    bigSep_one (Φ := fun d : D => (dutyTok ER g 0 d : sProp 𝕄)) (Finset.mem_univ 0)
  unfold toks toks'
  rw [bigSep_cells, bigSep_kinds]
  iintro ⟨HB, HS, HR⟩
  isplitl [HB]; · iexact HB
  isplitl [HS]
  · iapply (bigSep_mono_all (fun us : Fin 8 × Fin 10 => pick (sndC c us.1 us.2))) $$ HS
  · iapply (bigSep_mono_all (fun us : Fin 8 × Fin 10 => pick (rcvC c us.1 us.2))) $$ HR

/-- What is indexed by a device and something else may be moved along a permutation of the devices, another for each. -/
theorem bigSep_moved {A : Type} [Fintype A] (e : A → Dev nD ≃ Dev nD) (Φ : Dev nD → A → sProp 𝕄) :
    (bigSep Finset.univ fun c => bigSep Finset.univ fun a => Φ c a) = bigSep Finset.univ fun c => bigSep Finset.univ fun a => Φ (e a c) a := by
  rw [BI.bigSep_univ_comm, BI.bigSep_univ_comm (fun c a => Φ (e a c) a)]
  exact BI.bigSep_congr fun a _ => BI.bigSep_univ_equiv (e a) fun c => Φ c a

theorem toks_around : (bigSep Finset.univ fun c : Dev nD => toks (F := F) c) ⊢ bigSep Finset.univ fun c : Dev nD => pays (F := F) c := by
  refine (bigSep_mono_all fun c => toks_list c).trans ?_
  unfold toks' pays
  rw [bigSep_sep', bigSep_sep', bigSep_sep', bigSep_sep', bigSep_moved sigEquiv (fun c d => (dutyTok ER (barC c) 0 d : sProp 𝕄)),
    bigSep_moved (fun us : Fin 8 × Fin 10 => peerEquiv us.1 us.2) (fun c us => (dutyTok ER (rcvC c us.1 us.2) 0 0 : sProp 𝕄))]
  exact Entails.of_eq rfl

theorem mine_intro (c : Dev nD) : iprop((bigSep Finset.univ fun k : Cell => (atPos ER (kcell (c, k)) 0 ∅ 0 : sProp 𝕄)) ∗ pays (F := F) c) ⊢ mine (F := F) c := by
  unfold pays mine Tok Pos
  rw [bigSep_cells, bigSep_kinds, bigSep_sep', bigSep_sep', bigSep_sep']
  iintro ⟨⟨HB, HS, HR⟩, TB, TS, TR⟩
  isplitl [HB]; · iexact HB
  isplitl [TB]; · iexact TB
  isplitl [TS TR]
  · isplitl [TS] <;> iassumption
  isplitl [HS] <;> iassumption

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd (prods m ρ)) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m ρ) := by
  rw [bigSep_sep', bigSep_sep', ← BI.bigSep_univ_prod (fun ck : Dev nD × Cell => iprop(∃ κ : ℕ, cellInv ER (Rd (prods m ρ)) κ (kcell ck))),
    BI.bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← BI.bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (Rd (prods m ρ)) κ (kcell ck) : sProp 𝕄))) $$ HI
  icases HK with ⟨%K, #HI⟩
  ihave Htk := (toks_around (F := F)) $$ Htok
  iapply (bigSep_with_persistent (R := records (prods m ρ) K) (Φ := fun c => mine (F := F) c) fun c _ => by
    unfold G'; iintro ⟨#HK, H⟩; iexists K; isplitr; · iexact HK
    iexact H)
  isplitr
  · unfold records; isplitl; · iexact HI
    iexact HR
  · iapply (bigSep_mono_all (fun c => mine_intro (F := F) c))
    rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H5, HN⟩
  imodintro
  unfold start
  isplitl
  · isplitl [HG]; · iexact HG
    isplitl [H5]; · iexact H5
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ Whole accL
  iintro ⟨Hs, -, H0, H1, H2, H3⟩
  isplitl [Hs]; · iexact Hs
  isplitl [H0]; · iexact H0
  isplitl [H1]; · iexact H1
  isplitl [H2] <;> iassumption

theorem dns_sems (c : Dev nD) : Dns (F := F) c ⊢ Pipeline.ownSems0 osem c := by
  unfold Dns Dn Pipeline.ownSems0
  rw [← BI.bigSep_univ_prod (fun us : Fin 8 × Fin 10 => iprop(semVal (sndC c us.1 us.2) 0 ∗ semVal (rcvC c us.1 us.2) 0)), bigSep_sep', bigSep_kinds]

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ Whole accL
  iintro ⟨Hz, HD, H0, H1, H2, H3⟩
  isplitl [Hz]; · iexact Hz
  isplitl [HD]; · iapply (dns_sems c); iexact HD
  isplitl [H0]; · iexact H0
  isplitl [H1]; · iexact H1
  isplitl [H2] <;> iassumption

theorem stageWaits (c : Dev nD) : (levAts L lv : sProp 𝕄) ⊢ Pipeline.cellsWaits cfgs (dats m ρ) () 0 c :=
  Pipeline.cellsWaits_intro cfgs (dats m ρ) () 0 c fun w s t =>
    mayWait_stage c (by fin_cases w <;> fin_cases s <;> decide) (by
      rcases t with ⟨_ | _, ht⟩
      · exact owed_above c
      · exact Above.zero 0)

/-! ## The run -/

/-- What a window's array holds at the end. -/
def finalA (c : Dev nD) (w : Fin cfg0.W) : Buf (Elt F) ((cfg0.win w).arr.view.loc (c : Thread nD τ)) := (dats m ρ 0 c).arrAt w cfg0.N
def QC : PUnit × MemSt nD τ sig (Elt F) → Prop := fun r =>
  ∀ c : Dev nD, ∀ w : Fin cfg0.W, r.2.mem ((cfg0.win w).arr.view.loc (c : Thread nD τ)) = finalA m ρ c w

/-- Every execution of `@main` on the sixteen devices ends, with the windows' arrays as computed and all counters at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := stageWaits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.K
-- ==== Proof.KernelIdeal.Result.lean ====
/-
  What the run leaves in the three arrays of the kernel, and the two theorems that the claims are read
  off: the frame (arguments unchanged, counters at zero) and the value of the result.
-/
module

public import proofs.«01_k».proof.Proof.KernelIdeal.Launch

@[expose] public section

@[expose] public section

set_option maxRecDepth 65536

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Reading a whole array -/

/-- Reading the first argument's one block reads the argument. -/
theorem read_x (f : main_arg0.ty.Contents (Elt F)) : (win0_0.blk (0 : Fin 1)).view.read (Elt F) f = f :=
  Memref.read_access_unit_zero (Elt F) main_arg0 (funext fun a => by fin_cases a <;> decide) (fun a => by fin_cases a <;> decide) f

/-- The same of the second argument, -/
theorem read_w (f : main_arg1.ty.Contents (Elt F)) : (win0_1.blk (0 : Fin 1)).view.read (Elt F) f = f :=
  Memref.read_access_unit_zero (Elt F) main_arg1 (funext fun a => by fin_cases a <;> decide) (fun a => by fin_cases a <;> decide) f

/-- and of the result. -/
theorem read_out (f : main_v1.ty.Contents (Elt F)) : (win0_2.blk (0 : Fin 1)).view.read (Elt F) f = f :=
  Memref.read_access_unit_zero (Elt F) main_v1 (funext fun a => by fin_cases a <;> decide) (fun a => by fin_cases a <;> decide) f

section Final

variable (m : (ℓ : Loc nD τ sig) → Buf (Elt F) ℓ) (ρ : Dev nD → PrngReg)

/-- The first argument ends as it began. -/
theorem final_x (c : Dev nD) : finalA m ρ c (0 : Fin 3) = (s₀ m ρ).mem (win0_0.arr.view.loc (c : Thread nD τ)) :=
  (dats (F := F) m ρ 0 c).arrAt_in (0 : Fin 3) rfl _

/-- So does the second. -/
theorem final_w (c : Dev nD) : finalA m ρ c (1 : Fin 3) = (s₀ m ρ).mem (win0_1.arr.view.loc (c : Thread nD τ)) :=
  (dats (F := F) m ρ 0 c).arrAt_in (1 : Fin 3) rfl _

/-- The result ends as the all-reduced product, the same on every device. -/
theorem final_out (c : Dev nD) : finalA m ρ c (2 : Fin 3) = outV (prods m ρ) := by
  rw [← read_out (F := F) (finalA m ρ c (2 : Fin 3))]
  unfold finalA
  rw [show cfg0.N = ((0 : Fin 1) : Fin cfg0.N).val + 1 from rfl, (dats m ρ 0 c).arrAt_succ (2 : Fin 3) (0 : Fin 1),
    show (cfg0.win (2 : Fin 3)).flush (0 : Fin 1) = true from by decide, if_pos rfl]
  exact View.read_write_univ _ _

/-- Each device's part of the product, from its blocks of the two arguments. -/
theorem prods_eq (c : Dev nD) :
    prods m ρ c = k0_pay2 (m ((c.tc : Thread nD τ).loc main_arg0)) (m ((c.tc : Thread nD τ).loc main_arg1)) := by
  unfold prods xstg wstg
  rw [read_x, read_w]
  rfl

/-- The frame: the arguments unchanged, every counter at zero. -/
theorem frame :
    θ_run defs (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run _ _ _).mono (fun _ h => ⟨fun c => ⟨(h.1 c (0 : Fin 3)).trans (final_x m ρ c),
    (h.1 c (1 : Fin 3)).trans (final_w m ρ c)⟩, h.2⟩) (run_main m ρ)

/-- The value: every device's result is the all-reduced product; the arguments unchanged. -/
theorem value :
    θ_run defs (onTc (τ := τ) (main (F := F))) ⟨m, fun _ => 0, ρ⟩ (fun r => ∀ c : Dev nD,
      r.2.mem ((c.tc : Thread nD τ).loc main_v1) = outV (prods m ρ)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun _ h c => ⟨(h.1 c (2 : Fin 3)).trans (final_out m ρ c),
    (h.1 c (0 : Fin 3)).trans (final_x m ρ c), (h.1 c (1 : Fin 3)).trans (final_w m ρ c)⟩) (run_main m ρ)

end Final

end Cert.KernelIdeal.K
-- ==== Proof.Value.AllDevices.lean ====
/-
  The all-reduce over the extended reals: what a block's owner has after the three rounds of additions is
  the sum over all sixteen devices of what they began with. The sixteen summands come from sixteen different
  devices whatever the owner and the unit, and the order of the additions does not matter.
-/
module

public import proofs.«01_k».proof.Proof.KernelIdeal.Proto
public import Idealize.ShloMosaic.Lib.ValueIdx

@[expose] public section

set_option maxRecDepth 65536

noncomputable section

namespace Cert.KernelIdeal.K

open Cert.KernelIdeal Cert.KernelIdeal.Gen
open Idealize.ShloMosaic

/-- The devices whose parts the first two rounds bring together on `c`. -/
def four (c : Dev nD) (u : Fin 8) : List (Dev nD) := [c, frm c u 0, frm c u 1, frm (frm c u 1) u 0]
/-- The devices whose parts all three rounds bring together on `c`, -/
def sixteen (c : Dev nD) (u : Fin 8) : List (Dev nD) :=
  four c u ++ four (frm c u 2) u ++ four (frm c u 3) u ++ four (frm c u 4) u
/-- which are all the devices, each once. -/
theorem sixteen_perm : ∀ (c : Dev nD) (u : Fin 8), (sixteen c u).Perm (List.finRange 16) := by decide +kernel

variable (V0 : Dev nD → Acc Ideal)

/-- After two rounds: the sum over four devices. -/
theorem V2_apply (c : Dev nD) (u : Fin 8) (i : S1024x1024.Idx) :
    V2 V0 c u i = ((four c u).map fun d => (V0 d i : EReal)).sum := by
  show ((V0 c i : EReal) + V0 (frm c u 0) i) + (V0 (frm c u 1) i + V0 (frm (frm c u 1) u 0) i) = _
  simp only [four, List.map_cons, List.map_nil, List.sum_cons, List.sum_nil, add_zero, add_assoc]

/-- After three: the sum over all devices. -/
theorem V3_apply (c : Dev nD) (u : Fin 8) (i : S1024x1024.Idx) :
    V3 V0 c u i = ∑ d : Fin 16, (V0 d i : EReal) := by
  rw [Fin.sum_univ_def, ← ((sixteen_perm c u).map fun d => (V0 d i : EReal)).sum_eq]
  simp only [sixteen, List.map_append, List.sum_append, ← V2_apply]
  rfl

/-- The kernel's result is the sum of the devices' parts. -/
theorem outV_apply (i : S1024x1024.Idx) : outV V0 i = ∑ d : Fin 16, (V0 d i : EReal) :=
  V3_apply V0 _ _ i

end Cert.KernelIdeal.K
-- ==== Proof.Value.Product.lean ====
/-
  The products over the extended reals: one device's part is the product of its 64 columns of the first
  argument with its 64 rows of the second, and the sixteen parts add up to the product of the whole arrays.
-/
module

public import proofs.«01_k».proof.Proof.Gen.KernelIdeal.Skeleton
public import proofs.«01_k».proof.Proof.Gen.ReferenceIdeal
public import Idealize.ShloMosaic.Lib.MatmulPlain
public import Idealize.ShloMosaic.Lib.StackMember
public import Idealize.ShloMosaic.Lib.ValueIdx
public import Idealize.ShloMosaic.Lib.Layout

@[expose] public section

noncomputable section

namespace Cert.Product

open Cert.KernelIdeal Cert.KernelIdeal.Gen
open Idealize.ShloMosaic Idealize.ShloMosaic.ValueIdx

/-- One device's part at row `r` and column `n`: the sum of its 64 products. -/
theorem part_apply (x : FVec Ideal S1024x64 .bf16) (w : FVec Ideal S64x1024 .bf16) (r n : Fin 1024) :
    (k0_pay2 (F := Ideal) x w (ix2 r n) : EReal) = ∑ k : Fin 64, (x (ix2 r k) * w (ix2 k n) : EReal) := by
  unfold k0_pay2
  simp only [shapeCast_self]
  show FloatOps.matmul (DotDims.plain 1024 64 1024) none x w (constant S1024x1024 .f32 0x00000000#32) (ix2 r n) = _
  rw [Ideal.matmul_plain_apply, constant_apply, Ideal.ofBits_zero_f32]
  exact zero_add _

/-- The whole product at row `r` and column `n`: the sum of 1024 products. -/
theorem whole_apply (x w : FVec Ideal Cert.ReferenceIdeal.S1024x1024 .f32) (r n : Fin 1024) :
    (Host.dotGeneral Cert.ReferenceIdeal.dot_S1024x1024_S1024x1024_S1024x1024_1_0_0_1_n_n none x w (ix2 r n) : EReal)
      = ∑ k : Fin 1024, (x (ix2 r k) * w (ix2 k n) : EReal) :=
  StackMember.dotGeneral_plain_apply (m := 1024) (k := 1024) (n := 1024) none x w r n

/-- A sum over 1024 indices, in sixteen runs of 64. -/
theorem sum_runs (f : Fin 1024 → EReal) :
    ∑ d : Fin 16, ∑ k : Fin 64, f ⟨d.val * 64 + k.val, by omega⟩ = ∑ k : Fin 1024, f k := by
  rw [← Fintype.sum_prod_type', ← Equiv.sum_comp (finProdFinEquiv (m := 16) (n := 64)) (f : Fin (16 * 64) → EReal)]
  refine Finset.sum_congr rfl fun p _ => congrArg f (Fin.ext ?_)
  show p.1.val * 64 + p.2.val = p.2.val + 64 * p.1.val
  omega

/-- The parts of the blocks add up to the product of the whole arrays. -/
theorem sum_parts (x w : FVec Ideal S1024x1024 .bf16) (r n : Fin 1024) :
    ∑ d : Fin 16, (k0_pay2 (F := Ideal) (Layout.block ⟨2, ![1024, 64]⟩ ⟨2, ![1024, 1024]⟩ 1 16 d x : FVec Ideal S1024x64 .bf16)
      (Layout.block ⟨2, ![64, 1024]⟩ ⟨2, ![1024, 1024]⟩ 0 16 d w : FVec Ideal S64x1024 .bf16) (ix2 r n) : EReal)
      = ∑ k : Fin 1024, (x (ix2 r k) * w (ix2 k n) : EReal) := by
  rw [← sum_runs]
  refine Finset.sum_congr rfl fun d _ => ?_
  rw [part_apply]
  refine Finset.sum_congr rfl fun k _ => ?_
  rw [Layout.block_apply, Layout.block_apply]
  refine congrArg₂ (fun a b : EReal => a * b) (congrArg x ?_) (congrArg w ?_) <;>
    · funext a
      apply Fin.ext
      match a with
      | ⟨0, _⟩ => rfl
      | ⟨1, _⟩ => rfl

end Cert.Product
-- ==== Proof.lean ====
/-
  The proof of `Cert.Claim`: the three frames, `preserves`, and the equality of kernel and reference over the
  extended reals.

  The kernel's run, with what it leaves in its arrays, is proved once, for any float values
  (Proof/KernelIdeal/, and the same text of the other printed program in Proof/Kernel/). Its frames are that run
  at the two instances. Over the extended reals the result is the sum of the sixteen devices' parts
  (Proof/Value/AllDevices.lean), which is the product of the whole arrays (Proof/Value/Product.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Result
public import proofs.«01_k».proof.Proof.KernelIdeal.Result
public import proofs.«01_k».proof.Proof.Value.AllDevices
public import proofs.«01_k».proof.Proof.Value.Product
public import Idealize.ShloMosaic.Lib.Quiescent
public import Idealize.ShloMosaic.Adequacy
public import Idealize.ShloMosaic.Init

@[expose] public section

noncomputable section

namespace Cert.Proof

open Idealize.ShloMosaic Idealize.ShloMosaic.ValueIdx Idealize.SL.Sem

/-- The kernel, of bits: it terminates, its arguments unchanged and its counters at zero. -/
theorem frame_kernel : Cert.quiescent_Kernel (hKernel := Cert.Kernel.Gen.facts) :=
  fun m g _ => Cert.Kernel.K.frame (F := Bits) m g

/-- The same of the kernel over the extended reals. -/
theorem frame_ideal : Cert.quiescent_KernelIdeal (hKernelIdeal := Cert.KernelIdeal.Gen.facts) :=
  fun m g _ => Cert.KernelIdeal.K.frame (F := Ideal) m g

/-- The same of the reference, which has no counters. -/
theorem frame_reference : Cert.quiescent_ReferenceIdeal (hReferenceIdeal := Cert.ReferenceIdeal.Gen.facts) :=
  fun m g _ => (θ_run _ _ _).mono (fun r h => ⟨fun c => (h c).2, sem_eq_zero_of_no_sems (by decide) r.2⟩)
    (Cert.ReferenceIdeal.Value.run (F := Ideal) m g)

/-- Where each device holds its blocks of two whole arrays, the kernel's result on every device is what the
    reference computes of the whole arrays. -/
theorem result_eq (X W : FVec Ideal Cert.ReferenceIdeal.S1024x1024 .bf16)
    (V0 : Dev Cert.KernelIdeal.nD → Cert.KernelIdeal.K.Acc Ideal)
    (h : ∀ c, V0 c = Cert.KernelIdeal.Gen.k0_pay2 (F := Ideal) (Layout.block ⟨2, ![1024, 64]⟩ ⟨2, ![1024, 1024]⟩ 1 16 c X)
      (Layout.block ⟨2, ![64, 1024]⟩ ⟨2, ![1024, 1024]⟩ 0 16 c W)) :
    Cert.KernelIdeal.K.outV V0
      = extf .f32 (truncf .bf16 (Host.dotGeneral Cert.ReferenceIdeal.dot_S1024x1024_S1024x1024_S1024x1024_1_0_0_1_n_n none
          (extf .f32 X Cert.ReferenceIdeal.Gen.facts.bitsLt_bf16_f32) (extf .f32 W Cert.ReferenceIdeal.Gen.facts.bitsLt_bf16_f32))
          Cert.ReferenceIdeal.Gen.facts.bitsLt_bf16_f32) Cert.ReferenceIdeal.Gen.facts.bitsLt_bf16_f32 := by
  funext i
  obtain ⟨r, n, rfl⟩ : ∃ (r n : Fin 1024), i = ix2 r n := ⟨i 0, i 1, eq_ix2 i⟩
  rw [Cert.KernelIdeal.K.outV_apply, extf_apply, truncf_apply]
  refine Eq.trans ?_ (Cert.Product.whole_apply _ _ r n).symm
  refine Eq.trans ?_ (Cert.Product.sum_parts X W r n)
  exact Finset.sum_congr rfl fun d _ => congrFun (h d) _

/-- Kernel and reference compute the same function over the extended reals. -/
theorem algebraic : Cert.algebraic_KernelIdeal_ReferenceIdeal (hKernelIdeal := Cert.KernelIdeal.Gen.facts)
    (hReferenceIdeal := Cert.ReferenceIdeal.Gen.facts) := by
  intro m g m' g' _ hin
  refine ⟨_, (θ_run _ _ _).mono (fun r h c => ⟨(h c).1.trans (result_eq _ _ _ fun d => ?_), (h c).2⟩)
      (Cert.KernelIdeal.K.value (F := Ideal) m g),
    (θ_run _ _ _).mono (fun r h => h 0) (Cert.ReferenceIdeal.Value.run (F := Ideal) m' g')⟩
  rw [Cert.KernelIdeal.K.prods_eq, (hin d).1, (hin d).2]

theorem claim : Cert.Claim := ⟨Cert.Kernel.Gen.facts, Cert.KernelIdeal.Gen.facts, Cert.ReferenceIdeal.Gen.facts,
  frame_kernel, frame_ideal, frame_reference, trivial, algebraic⟩

end Cert.Proof

end
